-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8192 : Shape := ⟨3, ![4, 1024, 8192]⟩
abbrev S4096x8192 : Shape := ⟨2, ![4096, 8192]⟩
abbrev S8192 : Shape := ⟨1, ![8192]⟩
abbrev S_ : Shape := ⟨0, ![]⟩
abbrev S16 : Shape := ⟨1, ![16]⟩
abbrev S1x8192 : Shape := ⟨2, ![1, 8192]⟩
abbrev S256 : Shape := ⟨1, ![256]⟩

abbrev nBuf : Table → Nat
  | .hbm => 4
  | .local .scVector .vmem => 4
  | _ => 0

abbrev bufTy : (tb : Table) → Fin (nBuf tb) → BufTy
  | .hbm, ⟨0, _⟩ => ⟨S4x1024x8192, .f32⟩
  | .hbm, ⟨1, _⟩ => ⟨S4096x8192, .f32⟩
  | .hbm, ⟨2, _⟩ => ⟨S4096x8192, .f32⟩
  | .hbm, ⟨3, _⟩ => ⟨S4x1024x8192, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | _, _ => ⟨S4x1024x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32 : BitVec 32 := 1#32
  let v10 : BitVec 32 := Scalar.addi v2 c1_i32
  let c0_i32_1 : BitVec 32 := 0#32
  ![v10.toNat, 0]
@[reducible] def k0_t1_loop : Scf.Loop 32 :=
  let c0_i32_4 : BitVec 32 := 0#32
  let c64_i32 : BitVec 32 := 64#32
  let v15 : BitVec 32 := Scalar.addi c0_i32_4 c64_i32
  let c1_i32_5 : BitVec 32 := 1#32
  ⟨c0_i32_4, v15, c1_i32_5⟩
def k0_off3 (i : grid0.Coords) (k0_t1 : Fin k0_t1_loop.trips) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_12 : BitVec 32 := 2#32
  let c0_i32_4 : BitVec 32 := 0#32
  let c1_i32_5 : BitVec 32 := 1#32
  let arg12 : BitVec 32 := Scf.iv c0_i32_4 c1_i32_5 k0_t1
  let v25 : BitVec 32 := Scalar.muli c2_i32_12 arg12
  let v26 : BitVec 32 := Scalar.addi v25 c0_i32_13
  let v27 : BitVec 32 := Scalar.addi v2 v26
  let c0_i32_14 : BitVec 32 := 0#32
  ![v27.toNat, 0]
def k0_cond1 (k0_t1 : Fin k0_t1_loop.trips) : BitVec 1 :=
  let c0_i32_4 : BitVec 32 := 0#32
  let c1_i32_5 : BitVec 32 := 1#32
  let arg12 : BitVec 32 := Scf.iv c0_i32_4 c1_i32_5 k0_t1
  let c0_i32_16 : BitVec 32 := 0#32
  let v32 : BitVec 1 := Scalar.cmpi .sgt arg12 c0_i32_16
  let v33 : BitVec 32 := Scalar.extui v32
  let c0_i32_17 : BitVec 32 := 0#32
  let v34 : BitVec 1 := Scalar.cmpi .ne v33 c0_i32_17
  v34

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_12 : BitVec 32 := 2#32
  let c0_i32_4 : BitVec 32 := 0#32
  let c1_i32_5 : BitVec 32 := 1#32
  let arg12 : BitVec 32 := Scf.iv c0_i32_4 c1_i32_5 k0_t1
  let v25 : BitVec 32 := Scalar.muli c2_i32_12 arg12
  let c0_i32_13 : BitVec 32 := 0#32
  let v26 : BitVec 32 := Scalar.addi v25 c0_i32_13
  let v27 : BitVec 32 := Scalar.addi v2 v26
  let c0_i32_43 : BitVec 32 := 0#32
  ![v27.toNat, 0]
@[reducible] def k0_t2_loop : Scf.Loop 32 :=
  let c0_i32_19 : BitVec 32 := 0#32
  let c32_i32 : BitVec 32 := 32#32
  let v35 : BitVec 32 := Scalar.addi c0_i32_19 c32_i32
  let c1_i32_20 : BitVec 32 := 1#32
  ⟨c0_i32_19, v35, c1_i32_20⟩
def k0_off5 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk1 (v65 : IVec S16 32) : Prop :=
  (∀ a x, ((![v65] : Fin 1 → IVec S16 32) a x).toNat < S256.size a)
theorem k0_idx1_inb : ∀ (v65 : IVec S16 32) (k0_hw1 : k0_chk1 v65), ∀ a x, ((![v65] : Fin 1 → IVec S16 32) a x).toNat < S256.size a := fun v65 k0_hw1 => k0_hw1
def k0_off6 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk2 (v70 : IVec S16 32) : Prop :=
  (∀ a x, ((![v70] : Fin 1 → IVec S16 32) a x).toNat < S256.size a)
theorem k0_idx2_inb : ∀ (v70 : IVec S16 32) (k0_hw2 : k0_chk2 v70), ∀ a x, ((![v70] : Fin 1 → IVec S16 32) a x).toNat < S256.size a := fun v70 k0_hw2 => k0_hw2
def k0_off7 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk3 (v79 : IVec S16 32) : Prop :=
  (∀ a x, ((![v79] : Fin 1 → IVec S16 32) a x).toNat < S256.size a)
theorem k0_idx3_inb : ∀ (v79 : IVec S16 32) (k0_hw3 : k0_chk3 v79), ∀ a x, ((![v79] : Fin 1 → IVec S16 32) a x).toNat < S256.size a := fun v79 k0_hw3 => k0_hw3
def k0_off8 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk4 (v88 : IVec S16 32) : Prop :=
  (∀ a x, ((![v88] : Fin 1 → IVec S16 32) a x).toNat < S256.size a)
theorem k0_idx4_inb : ∀ (v88 : IVec S16 32) (k0_hw4 : k0_chk4 v88), ∀ a x, ((![v88] : Fin 1 → IVec S16 32) a x).toNat < S256.size a := fun v88 k0_hw4 => k0_hw4
def k0_off9 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk5 (v97 : IVec S16 32) : Prop :=
  (∀ a x, ((![v97] : Fin 1 → IVec S16 32) a x).toNat < S256.size a)
theorem k0_idx5_inb : ∀ (v97 : IVec S16 32) (k0_hw5 : k0_chk5 v97), ∀ a x, ((![v97] : Fin 1 → IVec S16 32) a x).toNat < S256.size a := fun v97 k0_hw5 => k0_hw5
def k0_off10 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk6 (v106 : IVec S16 32) : Prop :=
  (∀ a x, ((![v106] : Fin 1 → IVec S16 32) a x).toNat < S256.size a)
theorem k0_idx6_inb : ∀ (v106 : IVec S16 32) (k0_hw6 : k0_chk6 v106), ∀ a x, ((![v106] : Fin 1 → IVec S16 32) a x).toNat < S256.size a := fun v106 k0_hw6 => k0_hw6
def k0_off11 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk7 (v115 : IVec S16 32) : Prop :=
  (∀ a x, ((![v115] : Fin 1 → IVec S16 32) a x).toNat < S256.size a)
theorem k0_idx7_inb : ∀ (v115 : IVec S16 32) (k0_hw7 : k0_chk7 v115), ∀ a x, ((![v115] : Fin 1 → IVec S16 32) a x).toNat < S256.size a := fun v115 k0_hw7 => k0_hw7
def k0_off12 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk8 (v124 : IVec S16 32) : Prop :=
  (∀ a x, ((![v124] : Fin 1 → IVec S16 32) a x).toNat < S256.size a)
theorem k0_idx8_inb : ∀ (v124 : IVec S16 32) (k0_hw8 : k0_chk8 v124), ∀ a x, ((![v124] : Fin 1 → IVec S16 32) a x).toNat < S256.size a := fun v124 k0_hw8 => k0_hw8
def k0_off13 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk9 (v133 : IVec S16 32) : Prop :=
  (∀ a x, ((![v133] : Fin 1 → IVec S16 32) a x).toNat < S256.size a)
theorem k0_idx9_inb : ∀ (v133 : IVec S16 32) (k0_hw9 : k0_chk9 v133), ∀ a x, ((![v133] : Fin 1 → IVec S16 32) a x).toNat < S256.size a := fun v133 k0_hw9 => k0_hw9
def k0_off14 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk10 (v138 : IVec S16 32) : Prop :=
  (∀ a x, ((![v138] : Fin 1 → IVec S16 32) a x).toNat < S256.size a)
theorem k0_idx10_inb : ∀ (v138 : IVec S16 32) (k0_hw10 : k0_chk10 v138), ∀ a x, ((![v138] : Fin 1 → IVec S16 32) a x).toNat < S256.size a := fun v138 k0_hw10 => k0_hw10
def k0_off15 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk11 (v147 : IVec S16 32) : Prop :=
  (∀ a x, ((![v147] : Fin 1 → IVec S16 32) a x).toNat < S256.size a)
theorem k0_idx11_inb : ∀ (v147 : IVec S16 32) (k0_hw11 : k0_chk11 v147), ∀ a x, ((![v147] : Fin 1 → IVec S16 32) a x).toNat < S256.size a := fun v147 k0_hw11 => k0_hw11
def k0_off16 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk12 (v156 : IVec S16 32) : Prop :=
  (∀ a x, ((![v156] : Fin 1 → IVec S16 32) a x).toNat < S256.size a)
theorem k0_idx12_inb : ∀ (v156 : IVec S16 32) (k0_hw12 : k0_chk12 v156), ∀ a x, ((![v156] : Fin 1 → IVec S16 32) a x).toNat < S256.size a := fun v156 k0_hw12 => k0_hw12
def k0_off17 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk13 (v165 : IVec S16 32) : Prop :=
  (∀ a x, ((![v165] : Fin 1 → IVec S16 32) a x).toNat < S256.size a)
theorem k0_idx13_inb : ∀ (v165 : IVec S16 32) (k0_hw13 : k0_chk13 v165), ∀ a x, ((![v165] : Fin 1 → IVec S16 32) a x).toNat < S256.size a := fun v165 k0_hw13 => k0_hw13
def k0_off18 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk14 (v174 : IVec S16 32) : Prop :=
  (∀ a x, ((![v174] : Fin 1 → IVec S16 32) a x).toNat < S256.size a)
theorem k0_idx14_inb : ∀ (v174 : IVec S16 32) (k0_hw14 : k0_chk14 v174), ∀ a x, ((![v174] : Fin 1 → IVec S16 32) a x).toNat < S256.size a := fun v174 k0_hw14 => k0_hw14
def k0_off19 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk15 (v183 : IVec S16 32) : Prop :=
  (∀ a x, ((![v183] : Fin 1 → IVec S16 32) a x).toNat < S256.size a)
theorem k0_idx15_inb : ∀ (v183 : IVec S16 32) (k0_hw15 : k0_chk15 v183), ∀ a x, ((![v183] : Fin 1 → IVec S16 32) a x).toNat < S256.size a := fun v183 k0_hw15 => k0_hw15
def k0_off20 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk16 (v192 : IVec S16 32) : Prop :=
  (∀ a x, ((![v192] : Fin 1 → IVec S16 32) a x).toNat < S256.size a)
theorem k0_idx16_inb : ∀ (v192 : IVec S16 32) (k0_hw16 : k0_chk16 v192), ∀ a x, ((![v192] : Fin 1 → IVec S16 32) a x).toNat < S256.size a := fun v192 k0_hw16 => k0_hw16
def k0_off21 (k0_t2 : Fin k0_t2_loop.trips) : Fin 1 → Nat :=
  let c0_i32_19 : BitVec 32 := 0#32
  let c1_i32_20 : BitVec 32 := 1#32
  let arg13 : BitVec 32 := Scf.iv c0_i32_19 c1_i32_20 k0_t2
  let c256_i32 : BitVec 32 := 256#32
  let v63 : BitVec 32 := Scalar.muli arg13 c256_i32
  ![v63.toNat]

def k0_chk17 (v202 : IVec S16 32) : Prop :=
  (∀ a x, ((![v202] : Fin 1 → IVec S16 32) a x).toNat < S256.size a)
theorem k0_idx17_inb : ∀ (v202 : IVec S16 32) (k0_hw17 : k0_chk17 v202), ∀ a x, ((![v202] : Fin 1 → IVec S16 32) a x).toNat < S256.size a := fun v202 k0_hw17 => k0_hw17
def k0_cond2 (k0_t1 : Fin k0_t1_loop.trips) : BitVec 1 :=
  let c2_i32_12 : BitVec 32 := 2#32
  let c0_i32_4 : BitVec 32 := 0#32
  let c1_i32_5 : BitVec 32 := 1#32
  let arg12 : BitVec 32 := Scf.iv c0_i32_4 c1_i32_5 k0_t1
  let v25 : BitVec 32 := Scalar.muli c2_i32_12 arg12
  let c0_i32_13 : BitVec 32 := 0#32
  let v26 : BitVec 32 := Scalar.addi v25 c0_i32_13
  let c2_i32_24 : BitVec 32 := 2#32
  let v40 : BitVec 32 := Scalar.addi v26 c2_i32_24
  let c128_i32_25 : BitVec 32 := 128#32
  let v41 : BitVec 1 := Scalar.cmpi .slt v40 c128_i32_25
  let v42 : BitVec 32 := Scalar.extui v41
  let c0_i32_26 : BitVec 32 := 0#32
  let v43 : BitVec 1 := Scalar.cmpi .ne v42 c0_i32_26
  v43

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_12 : BitVec 32 := 2#32
  let c0_i32_4 : BitVec 32 := 0#32
  let c1_i32_5 : BitVec 32 := 1#32
  let arg12 : BitVec 32 := Scf.iv c0_i32_4 c1_i32_5 k0_t1
  let v25 : BitVec 32 := Scalar.muli c2_i32_12 arg12
  let c0_i32_13 : BitVec 32 := 0#32
  let v26 : BitVec 32 := Scalar.addi v25 c0_i32_13
  let v27 : BitVec 32 := Scalar.addi v2 v26
  let c2_i32_43 : BitVec 32 := 2#32
  let v63 : BitVec 32 := Scalar.addi v27 c2_i32_43
  let c0_i32_44 : BitVec 32 := 0#32
  ![v63.toNat, 0]
def k0_cond3 (k0_t1 : Fin k0_t1_loop.trips) : BitVec 1 :=
  let c0_i32_4 : BitVec 32 := 0#32
  let c1_i32_5 : BitVec 32 := 1#32
  let arg12 : BitVec 32 := Scf.iv c0_i32_4 c1_i32_5 k0_t1
  let c0_i32_31 : BitVec 32 := 0#32
  let v51 : BitVec 1 := Scalar.cmpi .sgt arg12 c0_i32_31
  let v52 : BitVec 32 := Scalar.extui v51
  let c0_i32_32 : BitVec 32 := 0#32
  let v53 : BitVec 1 := Scalar.cmpi .ne v52 c0_i32_32
  v53

def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_27 : BitVec 32 := 2#32
  let c0_i32_4 : BitVec 32 := 0#32
  let c1_i32_5 : BitVec 32 := 1#32
  let arg12 : BitVec 32 := Scf.iv c0_i32_4 c1_i32_5 k0_t1
  let v44 : BitVec 32 := Scalar.muli c2_i32_27 arg12
  let c1_i32_28 : BitVec 32 := 1#32
  let v45 : BitVec 32 := Scalar.addi v44 c1_i32_28
  let v46 : BitVec 32 := Scalar.addi v2 v45
  let c0_i32_43 : BitVec 32 := 0#32
  ![v46.toNat, 0]
@[reducible] def k0_t3_loop : Scf.Loop 32 :=
  let c0_i32_34 : BitVec 32 := 0#32
  let c32_i32_35 : BitVec 32 := 32#32
  let v54 : BitVec 32 := Scalar.addi c0_i32_34 c32_i32_35
  let c1_i32_36 : BitVec 32 := 1#32
  ⟨c0_i32_34, v54, c1_i32_36⟩
def k0_off24 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk18 (v65 : IVec S16 32) : Prop :=
  (∀ a x, ((![v65] : Fin 1 → IVec S16 32) a x).toNat < S256.size a)
theorem k0_idx18_inb : ∀ (v65 : IVec S16 32) (k0_hw18 : k0_chk18 v65), ∀ a x, ((![v65] : Fin 1 → IVec S16 32) a x).toNat < S256.size a := fun v65 k0_hw18 => k0_hw18
def k0_off25 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk19 (v70 : IVec S16 32) : Prop :=
  (∀ a x, ((![v70] : Fin 1 → IVec S16 32) a x).toNat < S256.size a)
theorem k0_idx19_inb : ∀ (v70 : IVec S16 32) (k0_hw19 : k0_chk19 v70), ∀ a x, ((![v70] : Fin 1 → IVec S16 32) a x).toNat < S256.size a := fun v70 k0_hw19 => k0_hw19
def k0_off26 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk20 (v79 : IVec S16 32) : Prop :=
  (∀ a x, ((![v79] : Fin 1 → IVec S16 32) a x).toNat < S256.size a)
theorem k0_idx20_inb : ∀ (v79 : IVec S16 32) (k0_hw20 : k0_chk20 v79), ∀ a x, ((![v79] : Fin 1 → IVec S16 32) a x).toNat < S256.size a := fun v79 k0_hw20 => k0_hw20
def k0_off27 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk21 (v88 : IVec S16 32) : Prop :=
  (∀ a x, ((![v88] : Fin 1 → IVec S16 32) a x).toNat < S256.size a)
theorem k0_idx21_inb : ∀ (v88 : IVec S16 32) (k0_hw21 : k0_chk21 v88), ∀ a x, ((![v88] : Fin 1 → IVec S16 32) a x).toNat < S256.size a := fun v88 k0_hw21 => k0_hw21
def k0_off28 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk22 (v97 : IVec S16 32) : Prop :=
  (∀ a x, ((![v97] : Fin 1 → IVec S16 32) a x).toNat < S256.size a)
theorem k0_idx22_inb : ∀ (v97 : IVec S16 32) (k0_hw22 : k0_chk22 v97), ∀ a x, ((![v97] : Fin 1 → IVec S16 32) a x).toNat < S256.size a := fun v97 k0_hw22 => k0_hw22
def k0_off29 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk23 (v106 : IVec S16 32) : Prop :=
  (∀ a x, ((![v106] : Fin 1 → IVec S16 32) a x).toNat < S256.size a)
theorem k0_idx23_inb : ∀ (v106 : IVec S16 32) (k0_hw23 : k0_chk23 v106), ∀ a x, ((![v106] : Fin 1 → IVec S16 32) a x).toNat < S256.size a := fun v106 k0_hw23 => k0_hw23
def k0_off30 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk24 (v115 : IVec S16 32) : Prop :=
  (∀ a x, ((![v115] : Fin 1 → IVec S16 32) a x).toNat < S256.size a)
theorem k0_idx24_inb : ∀ (v115 : IVec S16 32) (k0_hw24 : k0_chk24 v115), ∀ a x, ((![v115] : Fin 1 → IVec S16 32) a x).toNat < S256.size a := fun v115 k0_hw24 => k0_hw24
def k0_off31 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk25 (v124 : IVec S16 32) : Prop :=
  (∀ a x, ((![v124] : Fin 1 → IVec S16 32) a x).toNat < S256.size a)
theorem k0_idx25_inb : ∀ (v124 : IVec S16 32) (k0_hw25 : k0_chk25 v124), ∀ a x, ((![v124] : Fin 1 → IVec S16 32) a x).toNat < S256.size a := fun v124 k0_hw25 => k0_hw25
def k0_off32 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk26 (v133 : IVec S16 32) : Prop :=
  (∀ a x, ((![v133] : Fin 1 → IVec S16 32) a x).toNat < S256.size a)
theorem k0_idx26_inb : ∀ (v133 : IVec S16 32) (k0_hw26 : k0_chk26 v133), ∀ a x, ((![v133] : Fin 1 → IVec S16 32) a x).toNat < S256.size a := fun v133 k0_hw26 => k0_hw26
def k0_off33 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk27 (v138 : IVec S16 32) : Prop :=
  (∀ a x, ((![v138] : Fin 1 → IVec S16 32) a x).toNat < S256.size a)
theorem k0_idx27_inb : ∀ (v138 : IVec S16 32) (k0_hw27 : k0_chk27 v138), ∀ a x, ((![v138] : Fin 1 → IVec S16 32) a x).toNat < S256.size a := fun v138 k0_hw27 => k0_hw27
def k0_off34 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk28 (v147 : IVec S16 32) : Prop :=
  (∀ a x, ((![v147] : Fin 1 → IVec S16 32) a x).toNat < S256.size a)
theorem k0_idx28_inb : ∀ (v147 : IVec S16 32) (k0_hw28 : k0_chk28 v147), ∀ a x, ((![v147] : Fin 1 → IVec S16 32) a x).toNat < S256.size a := fun v147 k0_hw28 => k0_hw28
def k0_off35 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk29 (v156 : IVec S16 32) : Prop :=
  (∀ a x, ((![v156] : Fin 1 → IVec S16 32) a x).toNat < S256.size a)
theorem k0_idx29_inb : ∀ (v156 : IVec S16 32) (k0_hw29 : k0_chk29 v156), ∀ a x, ((![v156] : Fin 1 → IVec S16 32) a x).toNat < S256.size a := fun v156 k0_hw29 => k0_hw29
def k0_off36 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk30 (v165 : IVec S16 32) : Prop :=
  (∀ a x, ((![v165] : Fin 1 → IVec S16 32) a x).toNat < S256.size a)
theorem k0_idx30_inb : ∀ (v165 : IVec S16 32) (k0_hw30 : k0_chk30 v165), ∀ a x, ((![v165] : Fin 1 → IVec S16 32) a x).toNat < S256.size a := fun v165 k0_hw30 => k0_hw30
def k0_off37 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk31 (v174 : IVec S16 32) : Prop :=
  (∀ a x, ((![v174] : Fin 1 → IVec S16 32) a x).toNat < S256.size a)
theorem k0_idx31_inb : ∀ (v174 : IVec S16 32) (k0_hw31 : k0_chk31 v174), ∀ a x, ((![v174] : Fin 1 → IVec S16 32) a x).toNat < S256.size a := fun v174 k0_hw31 => k0_hw31
def k0_off38 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk32 (v183 : IVec S16 32) : Prop :=
  (∀ a x, ((![v183] : Fin 1 → IVec S16 32) a x).toNat < S256.size a)
theorem k0_idx32_inb : ∀ (v183 : IVec S16 32) (k0_hw32 : k0_chk32 v183), ∀ a x, ((![v183] : Fin 1 → IVec S16 32) a x).toNat < S256.size a := fun v183 k0_hw32 => k0_hw32
def k0_off39 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk33 (v192 : IVec S16 32) : Prop :=
  (∀ a x, ((![v192] : Fin 1 → IVec S16 32) a x).toNat < S256.size a)
theorem k0_idx33_inb : ∀ (v192 : IVec S16 32) (k0_hw33 : k0_chk33 v192), ∀ a x, ((![v192] : Fin 1 → IVec S16 32) a x).toNat < S256.size a := fun v192 k0_hw33 => k0_hw33
def k0_off40 (k0_t3 : Fin k0_t3_loop.trips) : Fin 1 → Nat :=
  let c0_i32_34 : BitVec 32 := 0#32
  let c1_i32_36 : BitVec 32 := 1#32
  let arg13 : BitVec 32 := Scf.iv c0_i32_34 c1_i32_36 k0_t3
  let c256_i32 : BitVec 32 := 256#32
  let v63 : BitVec 32 := Scalar.muli arg13 c256_i32
  ![v63.toNat]

def k0_chk34 (v202 : IVec S16 32) : Prop :=
  (∀ a x, ((![v202] : Fin 1 → IVec S16 32) a x).toNat < S256.size a)
theorem k0_idx34_inb : ∀ (v202 : IVec S16 32) (k0_hw34 : k0_chk34 v202), ∀ a x, ((![v202] : Fin 1 → IVec S16 32) a x).toNat < S256.size a := fun v202 k0_hw34 => k0_hw34
def k0_cond4 (k0_t1 : Fin k0_t1_loop.trips) : BitVec 1 :=
  let c2_i32_27 : BitVec 32 := 2#32
  let c0_i32_4 : BitVec 32 := 0#32
  let c1_i32_5 : BitVec 32 := 1#32
  let arg12 : BitVec 32 := Scf.iv c0_i32_4 c1_i32_5 k0_t1
  let v44 : BitVec 32 := Scalar.muli c2_i32_27 arg12
  let c1_i32_28 : BitVec 32 := 1#32
  let v45 : BitVec 32 := Scalar.addi v44 c1_i32_28
  let c2_i32_40 : BitVec 32 := 2#32
  let v59 : BitVec 32 := Scalar.addi v45 c2_i32_40
  let c128_i32_41 : BitVec 32 := 128#32
  let v60 : BitVec 1 := Scalar.cmpi .slt v59 c128_i32_41
  let v61 : BitVec 32 := Scalar.extui v60
  let c0_i32_42 : BitVec 32 := 0#32
  let v62 : BitVec 1 := Scalar.cmpi .ne v61 c0_i32_42
  v62

def k0_off41 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_27 : BitVec 32 := 2#32
  let c0_i32_4 : BitVec 32 := 0#32
  let c1_i32_5 : BitVec 32 := 1#32
  let arg12 : BitVec 32 := Scf.iv c0_i32_4 c1_i32_5 k0_t1
  let v44 : BitVec 32 := Scalar.muli c2_i32_27 arg12
  let c1_i32_28 : BitVec 32 := 1#32
  let v45 : BitVec 32 := Scalar.addi v44 c1_i32_28
  let v46 : BitVec 32 := Scalar.addi v2 v45
  let c2_i32_43 : BitVec 32 := 2#32
  let v63 : BitVec 32 := Scalar.addi v46 c2_i32_43
  let c0_i32_44 : BitVec 32 := 0#32
  ![v63.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x8192 : Shape := ⟨3, ![4, 1024, 8192]⟩
abbrev S4x1024x512x16 : Shape := ⟨4, ![4, 1024, 512, 16]⟩
abbrev S_ : Shape := ⟨0, ![]⟩
abbrev S4x1024x512 : Shape := ⟨3, ![4, 1024, 512]⟩
abbrev S512 : Shape := ⟨1, ![512]⟩
abbrev S1x1x512 : Shape := ⟨3, ![1, 1, 512]⟩
abbrev S4x1024x512x1 : Shape := ⟨4, ![4, 1024, 512, 1]⟩
abbrev S1 : Shape := ⟨1, ![1]⟩
abbrev S1x1x1x1 : Shape := ⟨4, ![1, 1, 1, 1]⟩
abbrev S4 : Shape := ⟨1, ![4]⟩
abbrev S4x1x1 : Shape := ⟨3, ![4, 1, 1]⟩
abbrev S1024 : Shape := ⟨1, ![1024]⟩
abbrev S1x1024x1 : Shape := ⟨3, ![1, 1024, 1]⟩
abbrev S4x1024x512x3 : Shape := ⟨4, ![4, 1024, 512, 3]⟩

abbrev nBuf : Space → Nat
  | .hbm => 71
  | .vmem => 0
  | .smem => 0
  | _ => 0

abbrev bufTy : (tb : Table) → Fin (tcTables nBuf tb) → BufTy
  | .hbm, ⟨0, _⟩ => ⟨S4x1024x8192, .f32⟩
  | .hbm, ⟨1, _⟩ => ⟨S4x1024x512x16, .f32⟩
  | .hbm, ⟨2, _⟩ => ⟨S4x1024x512x16, .f32⟩
  | .hbm, ⟨3, _⟩ => ⟨S4x1024x512x16, .i32⟩
  | .hbm, ⟨4, _⟩ => ⟨S_, .f32⟩
  | .hbm, ⟨5, _⟩ => ⟨S_, .i32⟩
  | .hbm, ⟨6, _⟩ => ⟨S4x1024x512, .f32⟩
  | .hbm, ⟨7, _⟩ => ⟨S4x1024x512, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S1x1x512, .i32⟩
  | .hbm, ⟨13, _⟩ => ⟨S4x1024x512, .i32⟩
  | .hbm, ⟨14, _⟩ => ⟨S4x1024x512, .i32⟩
  | .hbm, ⟨15, _⟩ => ⟨S_, .i32⟩
  | .hbm, ⟨16, _⟩ => ⟨S4x1024x512, .i32⟩
  | .hbm, ⟨17, _⟩ => ⟨S4x1024x512, .i1⟩
  | .hbm, ⟨18, _⟩ => ⟨S_, .i32⟩
  | .hbm, ⟨19, _⟩ => ⟨S4x1024x512, .i32⟩
  | .hbm, ⟨20, _⟩ => ⟨S4x1024x512, .i32⟩
  | .hbm, ⟨21, _⟩ => ⟨S4x1024x512, .i32⟩
  | .hbm, ⟨22, _⟩ => ⟨S4x1024x512x1, .i32⟩
  | .hbm, ⟨23, _⟩ => ⟨S1, .i32⟩
  | .hbm, ⟨24, _⟩ => ⟨S_, .i32⟩
  | .hbm, ⟨25, _⟩ => ⟨S4x1024x512x1, .i32⟩
  | .hbm, ⟨26, _⟩ => ⟨S4x1024x512x1, .i1⟩
  | .hbm, ⟨27, _⟩ => ⟨S1x1x1x1, .i32⟩
  | .hbm, ⟨28, _⟩ => ⟨S4x1024x512x1, .i32⟩
  | .hbm, ⟨29, _⟩ => ⟨S4x1024x512x1, .i1⟩
  | .hbm, ⟨30, _⟩ => ⟨S4x1024x512x1, .i1⟩
  | .hbm, ⟨31, _⟩ => ⟨S_, .i1⟩
  | .hbm, ⟨32, _⟩ => ⟨S4x1024x512, .i1⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4, .i32⟩
  | .hbm, ⟨38, _⟩ => ⟨S4x1x1, .i32⟩
  | .hbm, ⟨39, _⟩ => ⟨S1024, .i32⟩
  | .hbm, ⟨40, _⟩ => ⟨S1x1024x1, .i32⟩
  | .hbm, ⟨41, _⟩ => ⟨S_, .f32⟩
  | .hbm, ⟨42, _⟩ => ⟨S4x1024x8192, .f32⟩
  | .hbm, ⟨43, _⟩ => ⟨S_, .i32⟩
  | .hbm, ⟨44, _⟩ => ⟨S4x1x1, .i32⟩
  | .hbm, ⟨45, _⟩ => ⟨S4x1x1, .i1⟩
  | .hbm, ⟨46, _⟩ => ⟨S_, .i32⟩
  | .hbm, ⟨47, _⟩ => ⟨S4x1x1, .i32⟩
  | .hbm, ⟨48, _⟩ => ⟨S4x1x1, .i32⟩
  | .hbm, ⟨49, _⟩ => ⟨S4x1x1, .i32⟩
  | .hbm, ⟨50, _⟩ => ⟨S_, .i32⟩
  | .hbm, ⟨51, _⟩ => ⟨S1x1024x1, .i32⟩
  | .hbm, ⟨52, _⟩ => ⟨S1x1024x1, .i1⟩
  | .hbm, ⟨53, _⟩ => ⟨S_, .i32⟩
  | .hbm, ⟨54, _⟩ => ⟨S1x1024x1, .i32⟩
  | .hbm, ⟨55, _⟩ => ⟨S1x1024x1, .i32⟩
  | .hbm, ⟨56, _⟩ => ⟨S1x1024x1, .i32⟩
  | .hbm, ⟨57, _⟩ => ⟨S_, .i32⟩
  | .hbm, ⟨58, _⟩ => ⟨S4x1024x512, .i32⟩
  | .hbm, ⟨59, _⟩ => ⟨S4x1024x512, .i1⟩
  | .hbm, ⟨60, _⟩ => ⟨S_, .i32⟩
  | .hbm, ⟨61, _⟩ => ⟨S4x1024x512, .i32⟩
  | .hbm, ⟨62, _⟩ => ⟨S4x1024x512, .i32⟩
  | .hbm, ⟨63, _⟩ => ⟨S4x1024x512, .i32⟩
  | .hbm, ⟨64, _⟩ => ⟨S4x1024x512, .i32⟩
  | .hbm, ⟨65, _⟩ => ⟨S4x1024x512, .i32⟩
  | .hbm, ⟨66, _⟩ => ⟨S4x1024x512x1, .i32⟩
  | .hbm, ⟨67, _⟩ => ⟨S4x1024x512x1, .i32⟩
  | .hbm, ⟨68, _⟩ => ⟨S4x1024x512x1, .i32⟩
  | .hbm, ⟨69, _⟩ => ⟨S4x1024x512x3, .i32⟩
  | .hbm, ⟨70, _⟩ => ⟨S4x1024x8192, .f32⟩
  | _, _ => ⟨S4x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_c_0 : Ref sig .tc := ⟨.hbm, 43, rfl⟩
abbrev main_v15 : Ref sig .tc := ⟨.hbm, 44, rfl⟩
abbrev main_v16 : Ref sig .tc := ⟨.hbm, 45, rfl⟩
abbrev main_c_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_2 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩

abbrev nD : Nat := 1
abbrev τ : Topo := Topo.v7x

variable {F : FTy → Type} [FloatOps F]
-- ==== Proof.Answer.lean ====
/-
  The reference's run: what it computes from its argument, as a composition of its operations, and that its
  program ends with exactly that in its result's buffer.
-/
module

public import Idealize.ShloMosaic.Lib.StableHlo.Run
public import Idealize.ShloMosaic.Lib.Quiescent
public import proofs.«01_k».proof.Proof.Gen.ReferenceIdeal

@[expose] public section

noncomputable section

namespace Cert.Plain

open Cert.ReferenceIdeal Cert.ReferenceIdeal.Gen
open Idealize.ShloMosaic Idealize.ShloMosaic.TcCoe Idealize.ShloMosaic.StableHlo Idealize.SL.Sem

variable {F : FTy → Type} [FloatOps F]

/-! ## What the reference computes -/

/-- The magnitudes, a row cut into windows of sixteen. -/
def sizes (A : FVec F S4x1024x8192 .f32) : FVec F S4x1024x512x16 .f32 := Host.absf (shapeCast S4x1024x512x16 A shapeCasts_S4x1024x8192_S4x1024x512x16)

/-- Where in its window each window's greatest magnitude lies. -/
def best (A : FVec F S4x1024x8192 .f32) : IVec S4x1024x512 32 := fun j =>
  (Host.argReduce reducer_argmax_f32_i32 (sizes A) (iotaInDim S4x1024x512x16 32 3) (constant S_ .f32 0xFF800000#32) (constantI S_ 32 0#32)
    reducesTo_S4x1024x512x16_S4x1024x512_d3 h_S_ j).2

/-- The windows' first places in their row. -/
def starts : IVec S4x1024x512 32 :=
  broadcastInDim S4x1024x512 ![0, 1, 2] bcast_S1x1x512_S4x1024x512_0_1_2 (broadcastInDim S1x1x512 ![2] bcast_S512_S1x1x512_2
    (muli (iotaInDim S512 32 0) (broadcastInDim S512 ![] bcast_S_S512 (constantI S_ 32 16#32))))

/-- Where in its row each window's greatest magnitude lies. -/
def spots (A : FVec F S4x1024x8192 .f32) : IVec S4x1024x512 32 := addi (best A) starts

/-- Places counted from the row's end brought to places counted from its start. -/
def counted (p : IVec S4x1024x512 32) : IVec S4x1024x512 32 :=
  select (cmpi .slt p (broadcastInDim S4x1024x512 ![] bcast_S_S4x1024x512 (constantI S_ 32 0#32)))
    (addi p (broadcastInDim S4x1024x512 ![] bcast_S_S4x1024x512 (constantI S_ 32 8192#32))) p

/-- The places as the gather reads them. -/
def asked (p : IVec S4x1024x512 32) : IVec S4x1024x512x1 32 := shapeCast S4x1024x512x1 (counted p) shapeCasts_S4x1024x512_S4x1024x512x1

/-- Which places lie inside the row. -/
def inside (p : IVec S4x1024x512 32) : IVec S4x1024x512 1 :=
  Host.reduce IntOp.andi
    (andi (cmpi .sge (asked p) (broadcastInDim S4x1024x512x1 ![] bcast_S_S4x1024x512x1 (constantI S_ 32 0#32)))
      (cmpi .sle (asked p) (broadcastInDim S4x1024x512x1 ![0, 1, 2, 3] bcast_S1x1x1x1_S4x1024x512x1_0_1_2_3
        (broadcastInDim S1x1x1x1 ![3] bcast_S1_S1x1x1x1_3 (constantI S1 32 8191#32)))))
    (constantI S_ 1 1#1) reducesTo_S4x1024x512x1_S4x1024x512_d3 h_S_

/-- The argument's values at the places. -/
def taken (A : FVec F S4x1024x8192 .f32) (p : IVec S4x1024x512 32) : FVec F S4x1024x512 .f32 :=
  select (inside p) (Host.gather gather_S4x1024x8192_S4x1024x512x1_S4x1024x512_n_2_01_01_2_3_111 A (asked p))
    (broadcastInDim S4x1024x512 ![] bcast_S_S4x1024x512 (constant S_ .f32 0x7FC00000#32))

/-- The batches, counted. -/
def batches : IVec S4x1x1 32 := broadcastInDim S4x1x1 ![0] bcast_S4_S4x1x1_0 (iotaInDim S4 32 0)
/-- The channels, counted. -/
def channels : IVec S1x1024x1 32 := broadcastInDim S1x1024x1 ![1] bcast_S1024_S1x1024x1_1 (iotaInDim S1024 32 0)

/-- Three columns of numbers side by side. -/
def columns (a b c : IVec S4x1024x512x1 32) : IVec S4x1024x512x3 32 :=
  concatenate S4x1024x512x3 3 [⟨S4x1024x512x1, a⟩, ⟨S4x1024x512x1, b⟩, ⟨S4x1024x512x1, c⟩]
    concatenates_S4x1024x512x1_S4x1024x512x1_S4x1024x512x1_S4x1024x512x3_d3

/-- The batch of each window, -/
def batchColumn : IVec S4x1024x512x1 32 :=
  broadcastInDim S4x1024x512x1 ![0, 1, 2] bcast_S4x1024x512_S4x1024x512x1_0_1_2
    (broadcastInDim S4x1024x512 ![0, 1, 2] bcast_S4x1x1_S4x1024x512_0_1_2
      (select (cmpi .slt batches (broadcastInDim S4x1x1 ![] bcast_S_S4x1x1 (constantI S_ 32 0#32)))
        (addi batches (broadcastInDim S4x1x1 ![] bcast_S_S4x1x1 (constantI S_ 32 4#32))) batches))
/-- its channel, -/
def channelColumn : IVec S4x1024x512x1 32 :=
  broadcastInDim S4x1024x512x1 ![0, 1, 2] bcast_S4x1024x512_S4x1024x512x1_0_1_2
    (broadcastInDim S4x1024x512 ![0, 1, 2] bcast_S1x1024x1_S4x1024x512_0_1_2
      (select (cmpi .slt channels (broadcastInDim S1x1024x1 ![] bcast_S_S1x1024x1 (constantI S_ 32 0#32)))
        (addi channels (broadcastInDim S1x1024x1 ![] bcast_S_S1x1024x1 (constantI S_ 32 1024#32))) channels))
/-- and its place. -/
def placeColumn (p : IVec S4x1024x512 32) : IVec S4x1024x512x1 32 :=
  broadcastInDim S4x1024x512x1 ![0, 1, 2] bcast_S4x1024x512_S4x1024x512x1_0_1_2 (counted p)

/-- The reference's result: zeros, but each window's value of greatest magnitude at its place. -/
def answer (A : FVec F S4x1024x8192 .f32) : FVec F S4x1024x8192 .f32 :=
  Host.scatter scatter_S4x1024x8192_S4x1024x512x3_S4x1024x512_n_012_012_3 (fun _ b => b)
    (broadcastInDim S4x1024x8192 ![] bcast_S_S4x1024x8192 (constant S_ .f32 0x00000000#32)) (columns batchColumn channelColumn (placeColumn (spots A))) (taken A (spots A))

/-! ## Its program -/

/-- The reference's operations up to the places and the values to put there, in order, around the one that
    asks whether the places lie inside their rows. -/
abbrev line (o : HloOp τ sig (Elt F)) : List (HloOp τ sig (Elt F)) :=
  [ reshape main_arg0 main_v0 (rfl : (.f32 : EltTy) = .f32) shapeCasts_S4x1024x8192_S4x1024x512x16,
    unary main_v0 main_v1 Host.absf,
    nullary main_call0_v0 (iotaInDim S4x1024x512x16 32 3),
    nullary main_call0_cst (constant S_ .f32 0xFF800000#32),
    nullary main_call0_c (constantI S_ 32 0#32),
    quaternary main_v1 main_call0_v0 main_call0_cst main_call0_c main_call0_v1_0 (fun x y u v j => (Host.argReduce reducer_argmax_f32_i32 x y u v reducesTo_S4x1024x512x16_S4x1024x512_d3 h_S_ j).1),
    quaternary main_v1 main_call0_v0 main_call0_cst main_call0_c main_v2 (fun x y u v j => (Host.argReduce reducer_argmax_f32_i32 x y u v reducesTo_S4x1024x512x16_S4x1024x512_d3 h_S_ j).2),
    nullary main_v3 (iotaInDim S512 32 0),
    nullary main_c (constantI S_ 32 16#32),
    unary main_c main_v4 (broadcastInDim S512 ![] bcast_S_S512),
    binary main_v3 main_v4 main_v5 muli,
    unary main_v5 main_v6 (broadcastInDim S1x1x512 ![2] bcast_S512_S1x1x512_2),
    unary main_v6 main_v7 (broadcastInDim S4x1024x512 ![0, 1, 2] bcast_S1x1x512_S4x1024x512_0_1_2),
    binary main_v2 main_v7 main_v8 addi,
    nullary main_call1_c (constantI S_ 32 0#32),
    unary main_call1_c main_call1_v0 (broadcastInDim S4x1024x512 ![] bcast_S_S4x1024x512),
    binary main_v8 main_call1_v0 main_call1_v1 (cmpi .slt),
    nullary main_call1_c_0 (constantI S_ 32 8192#32),
    unary main_call1_c_0 main_call1_v2 (broadcastInDim S4x1024x512 ![] bcast_S_S4x1024x512),
    binary main_v8 main_call1_v2 main_call1_v3 addi,
    ternary main_call1_v1 main_call1_v3 main_v8 main_call1_v4 select,
    reshape main_call1_v4 main_call1_v5 (rfl : (.i32 : EltTy) = .i32) shapeCasts_S4x1024x512_S4x1024x512x1,
    nullary main_call1_c_1 (constantI S1 32 8191#32),
    nullary main_call1_c_2 (constantI S_ 32 0#32),
    unary main_call1_c_2 main_call1_v6 (broadcastInDim S4x1024x512x1 ![] bcast_S_S4x1024x512x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S4x1024x512x1 ![0, 1, 2, 3] bcast_S1x1x1x1_S4x1024x512x1_0_1_2_3),
    binary main_call1_v5 main_call1_v9 main_call1_v10 (cmpi .sle),
    binary main_call1_v7 main_call1_v10 main_call1_v11 andi,
    nullary main_call1_c_3 (constantI S_ 1 1#1),
    o,
    binary main_arg0 main_call1_v5 main_call1_v13 (fun x i => Host.gather gather_S4x1024x8192_S4x1024x512x1_S4x1024x512_n_2_01_01_2_3_111 x i),
    nullary main_call1_cst (constant S_ .f32 0x7FC00000#32),
    unary main_call1_cst main_call1_v14 (broadcastInDim S4x1024x512 ![] bcast_S_S4x1024x512),
    ternary main_call1_v12 main_call1_v13 main_call1_v14 main_v9 select,
    nullary main_v10 (iotaInDim S4 32 0),
    unary main_v10 main_v11 (broadcastInDim S4x1x1 ![0] bcast_S4_S4x1x1_0),
    nullary main_v12 (iotaInDim S1024 32 0),
    unary main_v12 main_v13 (broadcastInDim S1x1024x1 ![1] bcast_S1024_S1x1024x1_1),
    nullary main_cst (constant S_ .f32 0x00000000#32),
    unary main_cst main_v14 (broadcastInDim S4x1024x8192 ![] bcast_S_S4x1024x8192),
    nullary main_c_0 (constantI S_ 32 0#32),
    unary main_c_0 main_v15 (broadcastInDim S4x1x1 ![] bcast_S_S4x1x1),
    binary main_v11 main_v15 main_v16 (cmpi .slt),
    nullary main_c_1 (constantI S_ 32 4#32),
    unary main_c_1 main_v17 (broadcastInDim S4x1x1 ![] bcast_S_S4x1x1),
    binary main_v11 main_v17 main_v18 addi,
    ternary main_v16 main_v18 main_v11 main_v19 select,
    nullary main_c_2 (constantI S_ 32 0#32),
    unary main_c_2 main_v20 (broadcastInDim S1x1024x1 ![] bcast_S_S1x1024x1),
    binary main_v13 main_v20 main_v21 (cmpi .slt),
    nullary main_c_3 (constantI S_ 32 1024#32),
    unary main_c_3 main_v22 (broadcastInDim S1x1024x1 ![] bcast_S_S1x1024x1),
    binary main_v13 main_v22 main_v23 addi,
    ternary main_v21 main_v23 main_v13 main_v24 select,
    nullary main_c_4 (constantI S_ 32 0#32),
    unary main_c_4 main_v25 (broadcastInDim S4x1024x512 ![] bcast_S_S4x1024x512),
    binary main_v8 main_v25 main_v26 (cmpi .slt),
    nullary main_c_5 (constantI S_ 32 8192#32),
    unary main_c_5 main_v27 (broadcastInDim S4x1024x512 ![] bcast_S_S4x1024x512),
    binary main_v8 main_v27 main_v28 addi,
    ternary main_v26 main_v28 main_v8 main_v29 select,
    unary main_v19 main_v30 (broadcastInDim S4x1024x512 ![0, 1, 2] bcast_S4x1x1_S4x1024x512_0_1_2),
    unary main_v24 main_v31 (broadcastInDim S4x1024x512 ![0, 1, 2] bcast_S1x1024x1_S4x1024x512_0_1_2),
    unary main_v30 main_v32 (broadcastInDim S4x1024x512x1 ![0, 1, 2] bcast_S4x1024x512_S4x1024x512x1_0_1_2),
    unary main_v31 main_v33 (broadcastInDim S4x1024x512x1 ![0, 1, 2] bcast_S4x1024x512_S4x1024x512x1_0_1_2),
    unary main_v29 main_v34 (broadcastInDim S4x1024x512x1 ![0, 1, 2] bcast_S4x1024x512_S4x1024x512x1_0_1_2) ]

/-- An operation of two operands reads and writes its buffers' own types. -/
theorem binary_of (a b y : Ref sig .tc) (f : a.ty.Contents (Elt F) → b.ty.Contents (Elt F) → y.ty.Contents (Elt F))
    (ha : a.space ≠ .host) (ha' : a.isScoped = false) (hb : b.space ≠ .host) (hb' : b.isScoped = false) (hy : y.space ≠ .host) (hy' : y.isScoped = false) :
    (TRef.binary (⟨a, rfl, ha, ha'⟩ : TRef sig a.ty) (⟨b, rfl, hb, hb'⟩ : TRef sig b.ty) (⟨y, rfl, hy, hy'⟩ : TRef sig y.ty) f : HloOp τ sig (Elt F))
      = binary a b y f ⟨ha, ha'⟩ ⟨hb, hb'⟩ ⟨hy, hy'⟩ := rfl

/-- The question whether the places lie inside their rows, as the program writes it and over the buffers. -/
abbrev printedAsk : HloOp τ sig (Elt F) := TRef.binary main_call1.v11 main_call1.c_3 main_call1.v12 (fun x v => Host.reduce IntOp.andi x v reducesTo_S4x1024x512x1_S4x1024x512_d3 h_S_)
abbrev ask : HloOp τ sig (Elt F) := binary main_call1_v11 main_call1_c_3 main_call1_v12 (fun x v => Host.reduce IntOp.andi x v reducesTo_S4x1024x512x1_S4x1024x512_d3 h_S_)

theorem ask_eq : printedAsk (F := F) = ask := binary_of _ _ _ _ _ _ _ _ _ _

/-- The early operations. -/
abbrev early : List (HloOp τ sig (Elt F)) := line ask

/-- The places' three coordinates side by side. -/
abbrev join : HloOp τ sig (Elt F) := nary ![main_v32, main_v33, main_v34] main_v35 (fun u => columns (u 0) (u 1) (u 2))
/-- The values put at their places. -/
abbrev put : HloOp τ sig (Elt F) := ternary main_v14 main_v35 main_v9 main_v36 (fun x i u => Host.scatter scatter_S4x1024x8192_S4x1024x512x3_S4x1024x512_n_012_012_3 (fun _ b => b) x i u)

/-- The reference's operations. -/
abbrev ops : List (HloOp τ sig (Elt F)) := early ++ [join, put]

/-- The reference's program is that straight line. -/
theorem main_eq (c : Dev nD) : main (F := F) c = seq ops :=
  (show main (F := F) c = seq (line printedAsk ++ [join, put]) from rfl).trans (by rw [ask_eq])

theorem no_scoped_refs : (Finset.univ.filter fun b : Ref sig .tc => b.isScoped) = ∅ := by decide
theorem no_scoped_sems : (Finset.univ.filter fun sm : SemLoc sig => sm.isScoped .tc) = ∅ := by decide

/-- Its operations touch TensorCore buffers only. -/
theorem ops_sub : (ops : List (HloOp τ sig (Elt F))).Forall fun op => op.bufs ⊆ tcRefs τ sig :=
  ⟨reshape_bufs_sub .., unary_bufs_sub .., nullary_bufs_sub .., nullary_bufs_sub .., nullary_bufs_sub .., quaternary_bufs_sub .., quaternary_bufs_sub .., nullary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., ternary_bufs_sub ..⟩

theorem early_zeros (V : Valuation τ sig (Elt F)) :
    after early V (main_v14 : DevRef τ sig) = (broadcastInDim S4x1024x8192 ![] bcast_S_S4x1024x8192 (constant S_ .f32 0x00000000#32) : FVec F S4x1024x8192 .f32) := by
  after_results_simp
theorem early_batch (V : Valuation τ sig (Elt F)) : after early V (main_v32 : DevRef τ sig) = batchColumn := by
  after_results_simp
  rfl
theorem early_channel (V : Valuation τ sig (Elt F)) : after early V (main_v33 : DevRef τ sig) = channelColumn := by
  after_results_simp
  rfl
theorem early_place (V : Valuation τ sig (Elt F)) :
    after early V (main_v34 : DevRef τ sig) = placeColumn (spots (V (main_arg0 : DevRef τ sig))) := by
  after_results_simp
  rfl
theorem early_value (V : Valuation τ sig (Elt F)) :
    after early V (main_v9 : DevRef τ sig) = taken (V (main_arg0 : DevRef τ sig)) (spots (V (main_arg0 : DevRef τ sig))) := by
  after_results_simp
  rfl
theorem early_arg (V : Valuation τ sig (Elt F)) : after early V (main_arg0 : DevRef τ sig) = V (main_arg0 : DevRef τ sig) := by
  after_results_simp
/-- All the operations are the early ones and the last two. -/
theorem after_ops (V : Valuation τ sig (Elt F)) : after ops V = (put (F := F)).result ((join (F := F)).result (after early V)) := rfl

theorem join_eq (W : Valuation τ sig (Elt F)) :
    (join (F := F)).result W (main_v35 : DevRef τ sig) = columns (W (main_v32 : DevRef τ sig)) (W (main_v33 : DevRef τ sig)) (W (main_v34 : DevRef τ sig)) :=
  nary_result _ _ _ _ _ _
theorem put_eq (W : Valuation τ sig (Elt F)) :
    (put (F := F)).result W (main_v36 : DevRef τ sig)
      = Host.scatter scatter_S4x1024x8192_S4x1024x512x3_S4x1024x512_n_012_012_3 (fun _ b => b)
          (W (main_v14 : DevRef τ sig)) (W (main_v35 : DevRef τ sig)) (W (main_v9 : DevRef τ sig)) :=
  ternary_result _ _ _ _ _ _ _ _ _ _

/-- After them the result's buffer holds the answer, -/
theorem result_eq (V : Valuation τ sig (Elt F)) :
    after ops V (main_v36 : DevRef τ sig) = answer (V (main_arg0 : DevRef τ sig)) := by
  rw [after_ops, put_eq, join_eq,
    (join (F := F)).result_of_not_mem _ (show (main_v14 : DevRef τ sig) ∉ ({(main_v35 : DevRef τ sig)} : Finset (DevRef τ sig)) by decide),
    (join (F := F)).result_of_not_mem _ (show (main_v9 : DevRef τ sig) ∉ ({(main_v35 : DevRef τ sig)} : Finset (DevRef τ sig)) by decide),
    early_zeros, early_batch, early_channel, early_place, early_value]
  rfl

/-- and the argument's what it held. -/
theorem arg_eq (V : Valuation τ sig (Elt F)) : after ops V (main_arg0 : DevRef τ sig) = V (main_arg0 : DevRef τ sig) := by
  rw [after_ops,
    (put (F := F)).result_of_not_mem _ (show (main_arg0 : DevRef τ sig) ∉ ({(main_v36 : DevRef τ sig)} : Finset (DevRef τ sig)) by decide),
    (join (F := F)).result_of_not_mem _ (show (main_arg0 : DevRef τ sig) ∉ ({(main_v35 : DevRef τ sig)} : Finset (DevRef τ sig)) by decide), early_arg]

/-- The reference runs, and ends with the answer in its result's buffer and the argument unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v36) = answer (m ((c.tc : Thread nD τ).loc main_arg0))
        ∧ r.2.mem ((c.tc : Thread nD τ).loc main_arg0) = m ((c.tc : Thread nD τ).loc main_arg0) :=
  (θ_run defs _ _).mono (fun _ h c => ⟨(h c main_v36).trans (result_eq _), (h c main_arg0).trans (arg_eq _)⟩)
    (run_seq no_scoped_refs no_scoped_sems defs main (fun _ => ops) main_eq (fun _ => ops_sub) m ρ)

end Cert.Plain

end
-- ==== Proof.Pick.lean ====
/-
  What one block of sixteen entries becomes, in the kernel's own arithmetic, over any float values.

  The kernel looks at the sixteen entries of a block one after another, in two chains of eight. Each chain remembers the
  greatest absolute value so far and the place it was met; a later entry replaces it only if it is strictly greater. The
  second chain's place is taken only if its greatest is strictly greater than the first's. The block then keeps the entry at
  the place chosen and is zero elsewhere.
-/
module

public import proofs.«01_k».proof.Proof.Gen.KernelIdeal.Skeleton

@[expose] public section

noncomputable section

namespace Cert.Pick

open Cert.KernelIdeal Cert.KernelIdeal.Gen
open Idealize.ShloMosaic

variable {F : FTy → Type} [FloatOps F]

/-- One look: the state is the greatest absolute value so far and its place; entry `j` replaces it when strictly greater. -/
def look (w : Fin 16 → F .f32) (b : F .f32 × Fin 16) (j : Fin 16) : F .f32 × Fin 16 :=
  (FloatOps.maximumf (FloatOps.absf (w j)) b.1, if FloatOps.cmpf .ogt (FloatOps.absf (w j)) b.1 = 1#1 then j else b.2)

/-- The chain over entries 0 to 7. -/
def low (w : Fin 16 → F .f32) : F .f32 × Fin 16 := [1, 2, 3, 4, 5, 6, 7].foldl (look w) (FloatOps.absf (w 0), 0)

/-- The chain over entries 8 to 15. -/
def high (w : Fin 16 → F .f32) : F .f32 × Fin 16 := [9, 10, 11, 12, 13, 14, 15].foldl (look w) (FloatOps.absf (w 8), 8)

/-- The place the block keeps. -/
def pick (w : Fin 16 → F .f32) : Fin 16 :=
  if FloatOps.cmpf .ogt (high w).1 (low w).1 = 1#1 then (high w).2 else (low w).2

theorem look_greatest (w : Fin 16 → F .f32) (b : F .f32 × Fin 16) (j : Fin 16) :
    (look w b j).1 = FloatOps.maximumf (FloatOps.absf (w j)) b.1 := rfl

/-- Anything read at the remembered place: the choice passes outside. -/
theorem look_place {α : Type} (G : Fin 16 → α) (w : Fin 16 → F .f32) (b : F .f32 × Fin 16) (j : Fin 16) :
    G (look w b j).2 = if FloatOps.cmpf .ogt (FloatOps.absf (w j)) b.1 = 1#1 then G j else G b.2 := by
  unfold look; dsimp only; split <;> rfl

/-- Anything read at the place the block keeps. -/
theorem pick_place {α : Type} (G : Fin 16 → α) (w : Fin 16 → F .f32) :
    G (pick w) = if FloatOps.cmpf .ogt (high w).1 (low w).1 = 1#1 then G (high w).2 else G (low w).2 := by
  unfold pick; split <;> rfl

/-- Entry `16 x + j` of group `g` of a row: place `256 g + 16 x + j`. -/
def at3 (g : Fin 32) (x : Fin 16) (j : Fin 16) : S8192.Idx :=
  fun a => ⟨256 * g.val + 16 * x.val + j.val, by
    have := g.isLt; have := x.isLt; have := j.isLt
    have : S8192.size a = 8192 := by match a with | 0 => rfl
    omega⟩

theorem at3_val (g : Fin 32) (x : Fin 16) (j : Fin 16) (a : Fin 1) : (at3 g x j a).val = 256 * g.val + 16 * x.val + j.val := rfl

/-- The block `x` of group `g` of a row. -/
def block (X : S8192.Idx → F .f32) (g : Fin 32) (x : Fin 16) : Fin 16 → F .f32 := fun j => X (at3 g x j)

/-- The vector of the `j`-th entries of a group's sixteen blocks. -/
def column (X : S8192.Idx → F .f32) (g : Fin 32) (j : Fin 16) : Vec F S16 .f32 := fun x => X (at3 g (x 0) j)

/-- The vector of the places `16 x + j` within a group. -/
def place (j : Fin 16) : IVec S16 32 := addi k0_pay1 (broadcast S16 (BitVec.ofNat 32 j.val))

theorem place_apply (j : Fin 16) (x : S16.Idx) : (place j x).toNat = 16 * (x 0).val + j.val := by
  have h : ∀ (j : Fin 16) (x : Fin 16), (BitVec.ofNat 32 x.val * 16#32 + BitVec.ofNat 32 j.val).toNat = 16 * x.val + j.val := by decide
  have h0 : place j x = BitVec.ofNat 32 (x 0).val * 16#32 + BitVec.ofNat 32 j.val := by
    show (BitVec.ofNat 32 ([(0 : Fin 1)].foldl (fun n a => n * S16.size a + (x a).val) 0)) * 16#32 + _ = _
    simp [broadcast]
  rw [h0]; exact h j (x 0)

/-- The value vector the kernel stores for a group: each block's chosen entry. -/
theorem kept_value (X : S8192.Idx → F .f32) (g : Fin 32) (x : S16.Idx) :
    k0_pay68 (k0_pay33 (k0_pay19 (column X g 0) (column X g 1) (column X g 2) (column X g 3) (column X g 4)) (column X g 5) (column X g 6) (column X g 7))
        (k0_pay34 (k0_pay19 (column X g 0) (column X g 1) (column X g 2) (column X g 3) (column X g 4))
          (k0_pay20 (column X g 0) (column X g 1) (column X g 2) (column X g 3) (column X g 4)) (column X g 5) (column X g 6) (column X g 7))
        (k0_pay45 (column X g 8) (column X g 9) (column X g 10)) (k0_pay46 (column X g 8) (column X g 9) (column X g 10))
        (column X g 11) (column X g 12) (column X g 13) (column X g 14) (column X g 15) x
      = block X g (x 0) (pick (block X g (x 0))) := by
  rw [pick_place (block X g (x 0))]
  simp only [low, high, List.foldl, look_place, look_greatest]
  rfl

/-- The place vector the kernel stores at for a group: each block's chosen place. -/
theorem kept_place (X : S8192.Idx → F .f32) (g : Fin 32) (x : S16.Idx) :
    k0_pay69 (k0_pay33 (k0_pay19 (column X g 0) (column X g 1) (column X g 2) (column X g 3) (column X g 4)) (column X g 5) (column X g 6) (column X g 7))
        (k0_pay35 (k0_pay19 (column X g 0) (column X g 1) (column X g 2) (column X g 3) (column X g 4))
          (k0_pay21 (place 0) (column X g 0) (place 1) (column X g 1) (place 2) (column X g 2) (place 3) (column X g 3) (place 4) (column X g 4))
          (place 5) (column X g 5) (place 6) (column X g 6) (place 7) (column X g 7))
        (k0_pay45 (column X g 8) (column X g 9) (column X g 10))
        (k0_pay47 (place 8) (column X g 8) (place 9) (column X g 9) (place 10) (column X g 10))
        (place 11) (column X g 11) (place 12) (column X g 12) (place 13) (column X g 13) (place 14) (column X g 14) (place 15) (column X g 15) x
      = place (pick (block X g (x 0))) x := by
  rw [pick_place (fun j => place j x)]
  simp only [low, high, List.foldl, look_place (fun j => place j x), look_greatest]
  rfl

/-- What a row becomes: each block keeps its chosen entry, the rest is zero. -/
def row (X : S8192.Idx → F .f32) : S8192.Idx → F .f32 := fun p =>
  let g : Fin 32 := ⟨(p 0).val / 256, by have : (p 0).val < 8192 := (p 0).isLt; omega⟩
  let x : Fin 16 := ⟨(p 0).val / 16 % 16, by omega⟩
  let j : Fin 16 := ⟨(p 0).val % 16, by omega⟩
  if pick (block X g x) = j then X p else Scalar.ofBits .f32 0x00000000#32

/-- The row's result at a place told by group, block and entry. -/
theorem row_at (X : S8192.Idx → F .f32) (g : Fin 32) (x : Fin 16) (j : Fin 16) :
    row X (at3 g x j) = if pick (block X g x) = j then block X g x j else Scalar.ofBits .f32 0x00000000#32 := by
  have hg := g.isLt; have hx := x.isLt; have hj := j.isLt
  have e := at3_val g x j 0
  have h1 : (⟨(at3 g x j 0).val / 256, by omega⟩ : Fin 32) = g := Fin.ext (by dsimp only; omega)
  have h2 : (⟨(at3 g x j 0).val / 16 % 16, by omega⟩ : Fin 16) = x := Fin.ext (by dsimp only; omega)
  have h3 : (⟨(at3 g x j 0).val % 16, by omega⟩ : Fin 16) = j := Fin.ext (by dsimp only; omega)
  unfold row
  dsimp only
  rw [h1, h2, h3]
  rfl

end Cert.Pick

end
-- ==== Proof.Greatest.lean ====
/-
  Over the extended reals: which of sixteen values is the greatest, the first one on a tie, and that the kernel's
  choice is that one.
-/
module

public import proofs.«01_k».proof.Proof.Pick
public import Idealize.ShloMosaic.PureOps.Ideal.Laws

@[expose] public section

noncomputable section

namespace Cert.Greatest

open Idealize.ShloMosaic Cert.Pick

/-- `i` is where the greatest of the values lies, and the first such place. -/
def Leads (v : Fin 16 → EReal) (i : Fin 16) : Prop := ∀ j, v j < v i ∨ (v j = v i ∧ i ≤ j)

/-- There is one such place. -/
theorem Leads.unique {v : Fin 16 → EReal} {i k : Fin 16} (hi : Leads v i) (hk : Leads v k) : i = k := by
  rcases hi k with a | ⟨a, a'⟩ <;> rcases hk i with b | ⟨b, b'⟩
  · exact absurd a (lt_asymm b)
  · exact absurd b.symm (ne_of_lt a)
  · exact absurd a.symm (ne_of_lt b)
  · exact le_antisymm a' b'

/-- The magnitudes of sixteen entries. -/
def mag (w : Fin 16 → Ideal .f32) : Fin 16 → EReal := fun j => max (w j) (-(w j) : EReal)

/-- The state `b` holds the greatest of the values at places `lo` to `n - 1` and the first place it lies at. -/
def Upto (v : Fin 16 → EReal) (lo n : Nat) (b : EReal × Fin 16) : Prop :=
  b.1 = v b.2 ∧ lo ≤ b.2.val ∧ b.2.val < n ∧ ∀ j : Fin 16, lo ≤ j.val → j.val < n → v j < b.1 ∨ (v j = b.1 ∧ b.2 ≤ j)

theorem ogt_iff (a b : Ideal .f32) : FloatOps.cmpf .ogt a b = 1#1 ↔ (b : EReal) < a := by
  show BitVec.ofBool (decide ((b : EReal) < a)) = 1#1 ↔ _
  by_cases h : (b : EReal) < a <;> simp [h]

/-- A chain's start. -/
theorem upto_first (w : Fin 16 → Ideal .f32) (i : Fin 16) : Upto (mag w) i.val (i.val + 1) (FloatOps.absf (w i), i) :=
  ⟨rfl, le_rfl, Nat.lt_succ_self _, fun j h1 h2 => Or.inr (by
    have : j = i := Fin.ext (by omega)
    subst this; exact ⟨rfl, le_rfl⟩)⟩

/-- One more look. -/
theorem upto_look (w : Fin 16 → Ideal .f32) (lo : Nat) (b : Ideal .f32 × Fin 16) (i : Fin 16) (h : Upto (mag w) lo i.val b) :
    Upto (mag w) lo (i.val + 1) (look w b i) := by
  obtain ⟨e, h1, h2, h3⟩ := h
  by_cases g : (b.1 : EReal) < mag w i
  · have el : look w b i = (mag w i, i) := by
      have q : FloatOps.cmpf .ogt (FloatOps.absf (w i)) b.1 = 1#1 := (ogt_iff _ _).2 g
      unfold look
      rw [if_pos q]
      exact Prod.ext (max_eq_left (le_of_lt g)) rfl
    rw [el]
    refine ⟨rfl, le_of_lt (lt_of_le_of_lt h1 h2), Nat.lt_succ_self _, fun j a c => ?_⟩
    by_cases hj : j.val < i.val
    · left
      rcases h3 j a hj with q | ⟨q, _⟩
      · exact lt_trans q g
      · rw [q]; exact g
    · have : j = i := Fin.ext (by omega)
      subst this; exact Or.inr ⟨rfl, le_rfl⟩
  · have el : look w b i = b := by
      have q : ¬ FloatOps.cmpf .ogt (FloatOps.absf (w i)) b.1 = 1#1 := fun q => g ((ogt_iff _ _).1 q)
      unfold look
      rw [if_neg q]
      exact Prod.ext (max_eq_right (not_lt.1 g)) rfl
    rw [el]
    refine ⟨e, h1, by omega, fun j a c => ?_⟩
    by_cases hj : j.val < i.val
    · exact h3 j a hj
    · have hji : j = i := Fin.ext (by omega)
      subst hji
      rcases lt_or_eq_of_le (not_lt.1 g) with q | q
      · exact Or.inl q
      · exact Or.inr ⟨q, Fin.le_def.2 (le_of_lt h2)⟩

/-- The first chain's end. -/
theorem upto_low (w : Fin 16 → Ideal .f32) : Upto (mag w) 0 8 (low w) :=
  upto_look w 0 _ 7 (upto_look w 0 _ 6 (upto_look w 0 _ 5 (upto_look w 0 _ 4 (upto_look w 0 _ 3 (upto_look w 0 _ 2 (upto_look w 0 _ 1 (upto_first w 0)))))))

/-- The second chain's end. -/
theorem upto_high (w : Fin 16 → Ideal .f32) : Upto (mag w) 8 16 (high w) :=
  upto_look w 8 _ 15 (upto_look w 8 _ 14 (upto_look w 8 _ 13 (upto_look w 8 _ 12 (upto_look w 8 _ 11 (upto_look w 8 _ 10 (upto_look w 8 _ 9 (upto_first w 8)))))))

/-- The kernel keeps the entry of greatest magnitude, the first of those on a tie. -/
theorem pick_leads (w : Fin 16 → Ideal .f32) : Leads (mag w) (pick w) := by
  obtain ⟨e, _, l2, l3⟩ := upto_low w
  obtain ⟨f, u1, u2, u3⟩ := upto_high w
  unfold pick
  by_cases g : ((low w).1 : EReal) < (high w).1
  · rw [if_pos ((ogt_iff _ _).2 g)]
    intro j
    rw [← f]
    by_cases hj : j.val < 8
    · left
      rcases l3 j (Nat.zero_le _) hj with q | ⟨q, _⟩
      · exact lt_trans q g
      · rw [q]; exact g
    · exact u3 j (by omega) j.isLt
  · rw [if_neg (fun q => g ((ogt_iff _ _).1 q))]
    intro j
    rw [← e]
    by_cases hj : j.val < 8
    · exact l3 j (Nat.zero_le _) hj
    · have hle : (low w).2 ≤ j := Fin.le_def.2 (by omega)
      rcases u3 j (by omega) j.isLt with q | ⟨q, _⟩
      · exact Or.inl (lt_of_lt_of_le q (not_lt.1 g))
      · rcases lt_or_eq_of_le (not_lt.1 g) with p | p
        · exact Or.inl (q ▸ p)
        · exact Or.inr ⟨q.trans p, hle⟩

end Cert.Greatest

end
-- ==== Proof.Window.lean ====
/-
  Over the extended reals: where the reference finds each window's greatest magnitude. Its fold over a window keeps the
  greater value, and on equal values the smaller place, so in whatever order it goes it ends at the first place of the
  greatest magnitude.
-/
module

public import proofs.«01_k».proof.Proof.Answer
public import proofs.«01_k».proof.Proof.Greatest
public import Idealize.ShloMosaic.Lib.Pointwise.Reshape
public import Idealize.ShloMosaic.PureOps.Reduce
public import Idealize.ShloMosaic.PureOps.Ideal.Laws
public import Idealize.ShloMosaic.Lib.WordCmp

@[expose] public section

noncomputable section

namespace Cert.Plain

open Cert.ReferenceIdeal Cert.ReferenceIdeal.Gen Cert.Greatest
open Idealize.ShloMosaic

/-- The window `w` of row `(b, c)`: sixteen entries in a row. -/
def window (A : FVec Ideal S4x1024x8192 .f32) (b : Fin 4) (c : Fin 1024) (w : Fin 512) : Fin 16 → Ideal .f32 :=
  fun j => A (ix3 b c ⟨16 * w.val + j.val, by omega⟩)

/-- The magnitudes, read at a window's entry. -/
theorem sizes_at (A : FVec Ideal S4x1024x8192 .f32) (b : Fin 4) (c : Fin 1024) (w : Fin 512) (j : Fin 16) :
    sizes A (ix4 b c w j) = mag (window A b c w) j := by
  have e : Shape.reshapeEquiv shapeCasts_S4x1024x8192_S4x1024x512x16 (ix4 b c w j)
      = (ix3 b c ⟨16 * w.val + j.val, by omega⟩ : S4x1024x8192.Idx) :=
    Shape.reshapeEquiv_eq_of_vals _ _ _ _ _ (rowMajor_val3 _ 8388608 8192 rfl rfl) (rowMajor_val4 _ 8388608 8192 16 rfl rfl rfl)
      (by simp only [ix3_0, ix3_1, ix3_2, ix4_0, ix4_1, ix4_2, ix4_3]; omega)
  show FloatOps.hostAbsf (A (Shape.reshapeEquiv shapeCasts_S4x1024x8192_S4x1024x512x16 (ix4 b c w j))) = _
  rw [e]; rfl

/-- The reference's choice between two (value, place) pairs. -/
theorem reducer_eq (r p : Ideal .f32 × BitVec 32) :
    reducer_argmax_f32_i32 r p = if (p.1 : EReal) < r.1 ∨ ((r.1 : EReal) = p.1 ∧ r.2.toInt < p.2.toInt) then r else p := by
  obtain ⟨x, i⟩ := r
  obtain ⟨y, k⟩ := p
  have h1 : FloatOps.cmpf .ogt x y = BitVec.ofBool (decide ((y : EReal) < x)) := rfl
  have h2 : FloatOps.cmpf .une x x = BitVec.ofBool (decide ((x : EReal) ≠ x)) := rfl
  have h3 : FloatOps.cmpf .oeq x y = BitVec.ofBool (decide ((x : EReal) = y)) := rfl
  unfold reducer_argmax_f32_i32
  simp only [h1, h2, h3, WordCmp.cmpi_slt_eq, WordCmp.andi_ofBool, WordCmp.ori_ofBool]
  by_cases g : (y : EReal) < x
  · simp [g, Scalar.select]
  · by_cases q : (x : EReal) = y
    · subst q
      by_cases t : i.toInt < k.toInt <;> simp [t, Scalar.select]
    · simp [g, q, Scalar.select]

/-- `r` is one of the pairs, of the greatest value, and of the smallest place among those of that value. -/
def Tops (l : List (Ideal .f32 × BitVec 32)) (r : Ideal .f32 × BitVec 32) : Prop :=
  r ∈ l ∧ ∀ p ∈ l, (p.1 : EReal) < r.1 ∨ ((p.1 : EReal) = r.1 ∧ r.2.toInt ≤ p.2.toInt)

/-- One more pair. -/
theorem tops_step {l : List (Ideal .f32 × BitVec 32)} {r : Ideal .f32 × BitVec 32} (h : Tops l r) (p : Ideal .f32 × BitVec 32) :
    Tops (p :: l) (reducer_argmax_f32_i32 r p) := by
  rw [reducer_eq]
  by_cases g : (p.1 : EReal) < r.1 ∨ ((r.1 : EReal) = p.1 ∧ r.2.toInt < p.2.toInt)
  · rw [if_pos g]
    refine ⟨List.mem_cons_of_mem _ h.1, fun q hq => ?_⟩
    rcases List.mem_cons.1 hq with rfl | hq
    · rcases g with g | ⟨g, g'⟩
      · exact Or.inl g
      · exact Or.inr ⟨g.symm, le_of_lt g'⟩
    · exact h.2 q hq
  · rw [if_neg g]
    have g1 : (r.1 : EReal) ≤ p.1 := not_lt.1 fun a => g (Or.inl a)
    refine ⟨List.mem_cons_self, fun q hq => ?_⟩
    rcases List.mem_cons.1 hq with rfl | hq
    · exact Or.inr ⟨rfl, le_rfl⟩
    · rcases h.2 q hq with a | ⟨a, a'⟩
      · exact Or.inl (lt_of_lt_of_le a g1)
      · rcases lt_or_eq_of_le g1 with b | b
        · exact Or.inl (a ▸ b)
        · exact Or.inr ⟨a.trans b, le_trans (not_lt.1 fun t => g (Or.inr ⟨b, t⟩)) a'⟩

/-- The whole fold. -/
theorem tops_fold (l : List (Ideal .f32 × BitVec 32)) : ∀ (l₀ : List (Ideal .f32 × BitVec 32)) (r : Ideal .f32 × BitVec 32), Tops l₀ r →
    ∃ l', (∀ p, p ∈ l' ↔ p ∈ l ∨ p ∈ l₀) ∧ Tops l' (l.foldl reducer_argmax_f32_i32 r) := by
  induction l with
  | nil => exact fun l₀ r h => ⟨l₀, fun p => by simp, h⟩
  | cons q l ih =>
    intro l₀ r h
    obtain ⟨l', e, t⟩ := ih (q :: l₀) _ (tops_step h q)
    refine ⟨l', fun p => ?_, t⟩
    rw [e p]; simp only [List.mem_cons]; tauto

/-- The indices of a window's entries are those that give the window when the last axis is dropped. -/
theorem drop_iff (b : Fin 4) (c : Fin 1024) (w : Fin 512) (i : S4x1024x512x16.Idx) :
    reducesTo_S4x1024x512x16_S4x1024x512_d3.drop i = (ix3 b c w : S4x1024x512.Idx) ↔ ∃ k : Fin 16, i = ix4 b c w k := by
  constructor
  · intro e
    refine ⟨i 3, ?_⟩
    have e0 := congrFun e 0
    have e1 := congrFun e 1
    have e2 := congrFun e 2
    funext a
    match a with
    | 0 => exact e0
    | 1 => exact e1
    | 2 => exact e2
    | 3 => rfl
  · rintro ⟨k, rfl⟩
    funext a
    match a with
    | 0 => rfl
    | 1 => rfl
    | 2 => rfl

/-- A magnitude is not the least value. -/
theorem mag_above (v : Fin 16 → Ideal .f32) (k : Fin 16) : (⊥ : EReal) < mag v k := by
  have h : (0 : EReal) ≤ mag v k := by
    show (0 : EReal) ≤ max (v k : EReal) (-(v k : EReal))
    rcases le_total (0 : EReal) (v k : EReal) with h | h
    · exact le_max_of_le_left h
    · exact le_max_of_le_right (EReal.neg_nonneg.2 h)
  exact lt_of_lt_of_le (by simp) h

/-- The pattern the reference starts from is the least value. -/
theorem least : (FloatOps.ofBits .f32 0xFF800000#32 : Ideal .f32) = (⊥ : EReal) := by
  show Ideal.ofBits .f32 0xFF800000#32 = ⊥
  simp [Ideal.ofBits, Ideal.ieee]

/-- The fold over sixteen values with their places, from a pair below them all, ends at the first place of the greatest. -/
theorem fold_second (v : Fin 16 → EReal) (k : Fin 16) (hk : Leads v k) (hv : ∀ j, (⊥ : EReal) < v j) (L : List (Ideal .f32 × BitVec 32))
    (hL : ∀ p, p ∈ L ↔ ∃ j : Fin 16, p = (v j, BitVec.ofNat 32 j.val)) (x : Ideal .f32) (hx : (x : EReal) = ⊥) (i : BitVec 32) :
    (L.foldl reducer_argmax_f32_i32 (x, i)).2 = BitVec.ofNat 32 k.val := by
  have t0 : Tops [(x, i)] (x, i) := ⟨List.mem_cons_self, fun p hp => by
    rw [List.mem_singleton.1 hp]; exact Or.inr ⟨rfl, le_rfl⟩⟩
  obtain ⟨l', e, t⟩ := tops_fold L _ _ t0
  generalize L.foldl reducer_argmax_f32_i32 (x, i) = r at t
  have m : ∀ j : Fin 16, ((v j : Ideal .f32), BitVec.ofNat 32 j.val) ∈ l' := fun j => (e _).2 (Or.inl ((hL _).2 ⟨j, rfl⟩))
  rcases (e r).1 t.1 with q | q
  · obtain ⟨a, rfl⟩ := (hL r).1 q
    have li : Leads v a := fun j => by
      rcases t.2 _ (m j) with u | ⟨u, u'⟩
      · exact Or.inl u
      · refine Or.inr ⟨u, ?_⟩
        have hi := a.isLt
        have hj := j.isLt
        dsimp only at u'
        rw [WordCmp.toInt_ofNat_of_lt (by omega), WordCmp.toInt_ofNat_of_lt (by omega)] at u'
        exact Fin.le_def.2 (by omega)
    rw [li.unique hk]
  · exfalso
    rw [List.mem_singleton.1 q] at t
    have g : (x : EReal) < v 0 := hx ▸ hv 0
    rcases t.2 _ (m 0) with u | ⟨u, _⟩
    · exact lt_asymm g u
    · exact ne_of_gt g u

/-- The reference's reduction, whatever is reduced: if the indices that drop to `j` are sixteen, with sixteen values above the
    start's and their places counted, the place it ends at is the first one of the greatest. -/
theorem reduce_second {s t u : Shape} {axes : List (Fin s.rank)} (x : FVec Ideal s .f32) (y : s.Idx → BitVec 32) (ix : u.Idx → Ideal .f32) (iy : u.Idx → BitVec 32)
    (h : s.ReducesTo axes t) (hu : 0 < u.numel) (j : t.Idx) (spot : Fin 16 → s.Idx) (hd : ∀ i, h.drop i = j ↔ ∃ k : Fin 16, i = spot k)
    (v : Fin 16 → EReal) (hx : ∀ k, (x (spot k) : EReal) = v k) (hy : ∀ k : Fin 16, y (spot k) = BitVec.ofNat 32 k.val)
    (hi : (ix (Shape.Idx.first hu) : EReal) = ⊥) (hv : ∀ k, (⊥ : EReal) < v k) (k : Fin 16) (hk : Leads v k) :
    (Host.argReduce reducer_argmax_f32_i32 x y ix iy h hu j).2 = BitVec.ofNat 32 k.val := by
  rw [Ideal.argReduce_eq_reduce2, Host.reduce2_eq_foldl_fiber]
  refine fold_second v k hk hv _ (fun p => ?_) _ hi _
  unfold Host.argReduceFiber
  simp only [List.mem_map, List.mem_filter, List.mem_finRange, true_and, decide_eq_true_eq]
  constructor
  · rintro ⟨n, hn, rfl⟩
    obtain ⟨a, ha⟩ := (hd _).1 hn
    exact ⟨a, by rw [ha, hy a]; exact Prod.ext (hx a) rfl⟩
  · rintro ⟨a, rfl⟩
    refine ⟨s.rowMajor (spot a), ?_, ?_⟩
    · rw [Equiv.symm_apply_apply]; exact (hd _).2 ⟨a, rfl⟩
    · rw [Equiv.symm_apply_apply, hy a]; exact Prod.ext (hx a) rfl

/-- Where the reference looks, all windows at once. -/
theorem best_eq (A : FVec Ideal S4x1024x8192 .f32) : best A = fun j =>
    (Host.argReduce reducer_argmax_f32_i32 (sizes A) (iotaInDim S4x1024x512x16 32 3) (constant S_ .f32 0xFF800000#32) (constantI S_ 32 0#32)
      reducesTo_S4x1024x512x16_S4x1024x512_d3 h_S_ j).2 := rfl

/-- The reference finds each window's first place of greatest magnitude. -/
theorem best_at (A : FVec Ideal S4x1024x8192 .f32) (b : Fin 4) (c : Fin 1024) (w : Fin 512) (k : Fin 16)
    (hk : Leads (mag (window A b c w)) k) : best A (ix3 b c w) = BitVec.ofNat 32 k.val := by
  rw [best_eq]
  exact reduce_second _ _ _ _ _ _ _ (fun k => ix4 b c w k) (drop_iff b c w) _ (sizes_at A b c w) (fun _ => rfl) least (mag_above _) k hk

end Cert.Plain

end
-- ==== Proof.Placed.lean ====
/-
  Over the extended reals: the places the reference computes, as numbers, and what its gather and its scatter read and
  write there.
-/
module

public import proofs.«01_k».proof.Proof.Window
public import Idealize.ShloMosaic.Lib.Routing.OpsSet
public import Idealize.ShloMosaic.Lib.Pipeline.Value

@[expose] public section

noncomputable section

namespace Cert.Plain

open Cert.ReferenceIdeal Cert.ReferenceIdeal.Gen Cert.Greatest
open Idealize.ShloMosaic

/-- The places `p` are the numbers `q`, all inside a row. -/
def Told (p : IVec S4x1024x512 32) (q : S4x1024x512.Idx → Nat) : Prop := ∀ j, p j = BitVec.ofNat 32 (q j) ∧ q j < 8192

/-- The window's first place in its row. -/
theorem starts_at (b : Fin 4) (c : Fin 1024) (w : Fin 512) : starts (ix3 b c w) = BitVec.ofNat 32 (16 * w.val) := by
  have e : starts (ix3 b c w) = BitVec.ofNat 32 w.val * 16#32 := rfl
  rw [e]
  apply BitVec.eq_of_toNat_eq
  have := w.isLt
  simp only [BitVec.toNat_mul, BitVec.toNat_ofNat]
  omega

/-- The place of a window's greatest magnitude in its row. -/
theorem spots_at (A : FVec Ideal S4x1024x8192 .f32) (b : Fin 4) (c : Fin 1024) (w : Fin 512) (k : Fin 16)
    (hk : Leads (mag (window A b c w)) k) : spots A (ix3 b c w) = BitVec.ofNat 32 (16 * w.val + k.val) := by
  have e : spots A (ix3 b c w) = best A (ix3 b c w) + starts (ix3 b c w) := rfl
  rw [e, best_at A b c w k hk, starts_at]
  apply BitVec.eq_of_toNat_eq
  have := w.isLt
  have := k.isLt
  simp only [BitVec.toNat_add, BitVec.toNat_ofNat]
  omega

/-- A place inside the row is already counted from its start. -/
theorem counted_eq {p : IVec S4x1024x512 32} {q : S4x1024x512.Idx → Nat} (h : Told p q) : counted p = p := by
  funext j
  obtain ⟨e, l⟩ := h j
  show Scalar.select (IntOp.cmpi .slt (p j) 0#32) _ (p j) = p j
  refine Routing.wrap_of_lt _ _ ?_
  rw [e, WordCmp.toNat_ofNat_of_lt (by omega)]; omega

/-- The places as the gather reads them. -/
theorem asked_at {p : IVec S4x1024x512 32} {q : S4x1024x512.Idx → Nat} (h : Told p q) (b : Fin 4) (c : Fin 1024) (w : Fin 512) (z : Fin 1) :
    asked p (ix4 b c w z) = p (ix3 b c w) := by
  have e : Shape.reshapeEquiv shapeCasts_S4x1024x512_S4x1024x512x1 (ix4 b c w z) = (ix3 b c w : S4x1024x512.Idx) :=
    Shape.reshapeEquiv_eq_of_vals _ _ _ _ _ (rowMajor_val3 _ 524288 512 rfl rfl) (rowMajor_val4 _ 524288 512 1 rfl rfl rfl)
      (by have := z.isLt; simp only [ix3_0, ix3_1, ix3_2, ix4_0, ix4_1, ix4_2, ix4_3]; omega)
  unfold asked
  rw [counted_eq h]
  show p (Shape.reshapeEquiv shapeCasts_S4x1024x512_S4x1024x512x1 (ix4 b c w z)) = _
  rw [e]

/-- Ones reduced by `and` give one. -/
theorem reduce_ones {s t u : Shape} {axes : List (Fin s.rank)} (x : s.Idx → BitVec 1) (init : u.Idx → BitVec 1) (h : s.ReducesTo axes t)
    (hu : 0 < u.numel) (hx : ∀ i, x i = 1#1) (hi : ∀ i, init i = 1#1) (j : t.Idx) : Host.reduce IntOp.andi x init h hu j = 1#1 := by
  unfold Host.reduce
  rw [hi]
  generalize (List.finRange s.numel).filter _ = l
  induction l with
  | nil => rfl
  | cons n l ih =>
    rw [List.foldl_cons, hx]
    exact ih

/-- Every place lies inside its row. -/
theorem inside_eq {p : IVec S4x1024x512 32} {q : S4x1024x512.Idx → Nat} (h : Told p q) (j : S4x1024x512.Idx) : inside p j = 1#1 := by
  unfold inside
  refine reduce_ones _ _ _ _ (fun i => ?_) (fun _ => rfl) j
  show IntOp.andi (IntOp.cmpi .sge (asked p i) 0#32) (IntOp.cmpi .sle (asked p i) 8191#32) = 1#1
  have a : asked p i = p (ix3 (i 0) (i 1) (i 2)) := (congrArg (asked p) (eq_ix4 i)).trans (asked_at h (i 0) (i 1) (i 2) (i 3))
  obtain ⟨e, l⟩ := h (ix3 (i 0) (i 1) (i 2))
  rw [a, e, WordCmp.cmpi_sge_ofNat (by omega) (by omega), WordCmp.cmpi_sle_ofNat (by omega) (by omega), WordCmp.andi_ofBool, WordCmp.ofBool_eq_one_iff]
  simp; omega

/-- The gather's shape numbers. -/
abbrev gd : GatherDims S4x1024x8192 S4x1024x512x1 S4x1024x512 := gather_S4x1024x8192_S4x1024x512x1_S4x1024x512_n_2_01_01_2_3_111

/-- Where a gather looks its start up: at the window itself. -/
theorem gather_looks (b : Fin 4) (c : Fin 1024) (w : Fin 512) (z : Fin (GatherDims.startIndexMap gd).length) :
    GatherDims.siIdx gd (ix3 b c w) z = (ix4 b c w 0 : S4x1024x512x1.Idx) := by
  funext a
  match a with
  | 0 => rfl
  | 1 => rfl
  | 2 => rfl
  | 3 => exact Subsingleton.elim (α := Fin 1) _ _

theorem gather_start (p : IVec S4x1024x512x1 32) (b : Fin 4) (c : Fin 1024) (w : Fin 512) :
    GatherDims.start gd (ix3 b c w) p (2 : Fin 3) = min (p (ix4 b c w 0)).toInt.toNat 8191 := by
  have m : (2 : Fin 3) ∈ GatherDims.startIndexMap gd := List.mem_singleton.2 rfl
  refine (dif_pos m).trans ?_
  rw [gather_looks]
  rfl

/-- The gather reads the argument at the place told. -/
theorem gather_at (A : FVec Ideal S4x1024x8192 .f32) {p : IVec S4x1024x512 32} {q : S4x1024x512.Idx → Nat} (h : Told p q) (b : Fin 4) (c : Fin 1024)
    (w : Fin 512) : Host.gather gd A (asked p) (ix3 b c w) = A (ix3 b c ⟨q (ix3 b c w), (h _).2⟩) := by
  refine congrArg A (funext fun a => Fin.ext ?_)
  obtain ⟨e, l⟩ := h (ix3 b c w)
  match a with
  | 0 =>
    have s0 : GatherDims.start gd (ix3 b c w) (asked p) (0 : Fin 3) = 0 := GatherDims.start_batching _ _ _ _ List.mem_cons_self
    have b0 : GatherDims.batchCoord gd (ix3 b c w) (0 : Fin 3) = b.val := rfl
    have o0 : GatherDims.offCoord gd (ix3 b c w) (0 : Fin 3) = 0 := rfl
    show GatherDims.start gd (ix3 b c w) (asked p) (0 : Fin 3) + GatherDims.batchCoord gd (ix3 b c w) (0 : Fin 3)
      + GatherDims.offCoord gd (ix3 b c w) (0 : Fin 3) = b.val
    omega
  | 1 =>
    have s1 : GatherDims.start gd (ix3 b c w) (asked p) (1 : Fin 3) = 0 := GatherDims.start_batching _ _ _ _ (List.mem_cons_of_mem _ List.mem_cons_self)
    have b1 : GatherDims.batchCoord gd (ix3 b c w) (1 : Fin 3) = c.val := rfl
    have o1 : GatherDims.offCoord gd (ix3 b c w) (1 : Fin 3) = 0 := rfl
    show GatherDims.start gd (ix3 b c w) (asked p) (1 : Fin 3) + GatherDims.batchCoord gd (ix3 b c w) (1 : Fin 3)
      + GatherDims.offCoord gd (ix3 b c w) (1 : Fin 3) = c.val
    omega
  | 2 =>
    have s2 := gather_start (asked p) b c w
    have b2 : GatherDims.batchCoord gd (ix3 b c w) (2 : Fin 3) = 0 := rfl
    have o2 : GatherDims.offCoord gd (ix3 b c w) (2 : Fin 3) = 0 := rfl
    rw [asked_at h, e, WordCmp.toInt_ofNat_of_lt (by omega)] at s2
    show GatherDims.start gd (ix3 b c w) (asked p) (2 : Fin 3) + GatherDims.batchCoord gd (ix3 b c w) (2 : Fin 3)
      + GatherDims.offCoord gd (ix3 b c w) (2 : Fin 3) = q (ix3 b c w)
    omega

/-- A choice whose condition is one. -/
theorem chosen {α : Type} {s : Shape} (k : IVec s 1) (x y : s.Idx → α) (j : s.Idx) (h : k j = 1#1) : select k x y j = x j := if_pos h

/-- The values put are the argument's at the places told. -/
theorem taken_at (A : FVec Ideal S4x1024x8192 .f32) {p : IVec S4x1024x512 32} {q : S4x1024x512.Idx → Nat} (h : Told p q) (b : Fin 4) (c : Fin 1024)
    (w : Fin 512) : taken A p (ix3 b c w) = A (ix3 b c ⟨q (ix3 b c w), (h _).2⟩) := by
  rw [← gather_at A h]
  unfold taken
  exact chosen _ _ _ _ (inside_eq h _)

/-! ## The scatter -/

/-- The batch of a window, as a word. -/
theorem batch_at (b : Fin 4) (c : Fin 1024) (w : Fin 512) (z : Fin 1) : batchColumn (ix4 b c w z) = BitVec.ofNat 32 b.val := by
  have e : batchColumn (ix4 b c w z) = Scalar.select (IntOp.cmpi .slt (BitVec.ofNat 32 b.val) 0#32) (BitVec.ofNat 32 b.val + 4#32) (BitVec.ofNat 32 b.val) := rfl
  rw [e]
  refine Routing.wrap_of_lt _ _ ?_
  rw [WordCmp.toNat_ofNat_of_lt (by omega)]; omega

/-- The channel of a window, as a word. -/
theorem channel_at (b : Fin 4) (c : Fin 1024) (w : Fin 512) (z : Fin 1) : channelColumn (ix4 b c w z) = BitVec.ofNat 32 c.val := by
  have e : channelColumn (ix4 b c w z) = Scalar.select (IntOp.cmpi .slt (BitVec.ofNat 32 c.val) 0#32) (BitVec.ofNat 32 c.val + 1024#32) (BitVec.ofNat 32 c.val) := rfl
  rw [e]
  refine Routing.wrap_of_lt _ _ ?_
  rw [WordCmp.toNat_ofNat_of_lt (by omega)]; omega

/-- The place of a window, as a word. -/
theorem place_at {p : IVec S4x1024x512 32} {q : S4x1024x512.Idx → Nat} (h : Told p q) (b : Fin 4) (c : Fin 1024) (w : Fin 512) (z : Fin 1) :
    placeColumn p (ix4 b c w z) = BitVec.ofNat 32 (q (ix3 b c w)) := by
  have e : placeColumn p (ix4 b c w z) = counted p (ix3 b c w) :=
    broadcastInDim_apply _ _ _ _ _ fun a => by
      match a with
      | 0 => rfl
      | 1 => rfl
      | 2 => rfl
  rw [e, counted_eq h]; exact (h _).1

/-- The three columns, read at each of the three. -/
theorem columns_at (x y z : IVec S4x1024x512x1 32) (b : Fin 4) (c : Fin 1024) (w : Fin 512) :
    columns x y z (ix4 b c w 0) = x (ix4 b c w 0) ∧ columns x y z (ix4 b c w 1) = y (ix4 b c w 0) ∧ columns x y z (ix4 b c w 2) = z (ix4 b c w 0) := by
  refine ⟨?_, ?_, ?_⟩
  · refine concatenate_apply_piece 3 [⟨S4x1024x512x1, x⟩, ⟨S4x1024x512x1, y⟩, ⟨S4x1024x512x1, z⟩] concatenates_S4x1024x512x1_S4x1024x512x1_S4x1024x512x1_S4x1024x512x3_d3
      (ix4 b c w 0) 0 (show 0 < 3 by omega) S4x1024x512x1 x rfl rfl 0 rfl (ix4 b c w 0) (fun a ha => ?_) rfl
    match a with
    | 0 => rfl
    | 1 => rfl
    | 2 => rfl
    | 3 => exact absurd rfl ha
  · refine concatenate_apply_piece 3 [⟨S4x1024x512x1, x⟩, ⟨S4x1024x512x1, y⟩, ⟨S4x1024x512x1, z⟩] concatenates_S4x1024x512x1_S4x1024x512x1_S4x1024x512x1_S4x1024x512x3_d3
      (ix4 b c w 1) 1 (show 1 < 3 by omega) S4x1024x512x1 y rfl rfl 1 rfl (ix4 b c w 0) (fun a ha => ?_) rfl
    match a with
    | 0 => rfl
    | 1 => rfl
    | 2 => rfl
    | 3 => exact absurd rfl ha
  · refine concatenate_apply_piece 3 [⟨S4x1024x512x1, x⟩, ⟨S4x1024x512x1, y⟩, ⟨S4x1024x512x1, z⟩] concatenates_S4x1024x512x1_S4x1024x512x1_S4x1024x512x1_S4x1024x512x3_d3
      (ix4 b c w 2) 2 (show 2 < 3 by omega) S4x1024x512x1 z rfl rfl 2 rfl (ix4 b c w 0) (fun a ha => ?_) rfl
    match a with
    | 0 => rfl
    | 1 => rfl
    | 2 => rfl
    | 3 => exact absurd rfl ha

/-- The scatter's shape numbers. -/
abbrev sd : ScatterDims S4x1024x8192 S4x1024x512x3 S4x1024x512 := scatter_S4x1024x8192_S4x1024x512x3_S4x1024x512_n_012_012_3

/-- Where a scatter looks a coordinate up. -/
theorem scatter_looks (b : Fin 4) (c : Fin 1024) (w : Fin 512) (z : Fin 3) (hz : z.val < sd.scatterDimsToOperandDims.length) :
    sd.siIdx (ix3 b c w) ⟨z.val, hz⟩ = (ix4 b c w z : S4x1024x512x3.Idx) := by
  funext a
  match a with
  | 0 => rfl
  | 1 => rfl
  | 2 => rfl
  | 3 => rfl

/-- The coordinate a scatter's update starts at. -/
theorem scatter_start (i : IVec S4x1024x512x3 32) (b : Fin 4) (c : Fin 1024) (w : Fin 512) (z : Fin 3) :
    sd.start (ix3 b c w) i z = (i (ix4 b c w z)).toInt := by
  have m : z ∈ sd.scatterDimsToOperandDims := by
    match z with
    | 0 => exact List.mem_cons_self
    | 1 => exact List.mem_cons_of_mem _ List.mem_cons_self
    | 2 => exact List.mem_cons_of_mem _ (List.mem_cons_of_mem _ List.mem_cons_self)
  refine (dif_pos m).trans ?_
  refine congrArg (fun k => (i k).toInt) ?_
  refine Eq.trans ?_ (scatter_looks b c w z z.isLt)
  refine congrArg _ (Fin.ext ?_)
  match z with
  | 0 => rfl
  | 1 => rfl
  | 2 => rfl

/-- Where a window's update lands: at its batch, its channel and its place. -/
theorem lands_iff {p : IVec S4x1024x512 32} {q : S4x1024x512.Idx → Nat} (h : Told p q) (b : Fin 4) (c : Fin 1024) (w : Fin 512) (b' : Fin 4)
    (c' : Fin 1024) (l : Fin 8192) :
    sd.resultIdx? (ix3 b c w) (columns batchColumn channelColumn (placeColumn p)) = some (ix3 b' c' l)
      ↔ b = b' ∧ c = c' ∧ q (ix3 b c w) = l.val := by
  obtain ⟨e0, e1, e2⟩ := columns_at batchColumn channelColumn (placeColumn p) b c w
  have hq := (h (ix3 b c w)).2
  rw [batch_at] at e0
  rw [channel_at] at e1
  rw [place_at h] at e2
  have s0 := scatter_start (columns batchColumn channelColumn (placeColumn p)) b c w 0
  have s1 := scatter_start (columns batchColumn channelColumn (placeColumn p)) b c w 1
  have s2 := scatter_start (columns batchColumn channelColumn (placeColumn p)) b c w 2
  rw [e0, WordCmp.toInt_ofNat_of_lt (by omega)] at s0
  rw [e1, WordCmp.toInt_ofNat_of_lt (by omega)] at s1
  rw [e2, WordCmp.toInt_ofNat_of_lt (by omega)] at s2
  have w0 : ∀ a : Fin 3, sd.window (ix3 b c w) a = 0 := fun a => by
    match a with
    | 0 => rfl
    | 1 => rfl
    | 2 => rfl
  rw [Routing.resultIdx?_eq_some]
  constructor
  · intro g
    have g0 := g (0 : Fin 3)
    have g1 := g (1 : Fin 3)
    have g2 := g (2 : Fin 3)
    rw [w0, s0] at g0
    rw [w0, s1] at g1
    rw [w0, s2] at g2
    have g0' : ((b.val : Int) + ((0 : Nat) : Int)) = (b'.val : Int) := g0
    have g1' : ((c.val : Int) + ((0 : Nat) : Int)) = (c'.val : Int) := g1
    have g2' : ((q (ix3 b c w) : Int) + ((0 : Nat) : Int)) = (l.val : Int) := g2
    exact ⟨Fin.ext (by omega), Fin.ext (by omega), by omega⟩
  · rintro ⟨rfl, rfl, g⟩ a
    match a with
    | 0 =>
      refine (congrArg₂ (fun x y : Int => x + y) s0 (congrArg Nat.cast (w0 0))).trans ?_
      show (b.val : Int) + ((0 : Nat) : Int) = (b.val : Int)
      omega
    | 1 =>
      refine (congrArg₂ (fun x y : Int => x + y) s1 (congrArg Nat.cast (w0 1))).trans ?_
      show (c.val : Int) + ((0 : Nat) : Int) = (c.val : Int)
      omega
    | 2 =>
      refine (congrArg₂ (fun x y : Int => x + y) s2 (congrArg Nat.cast (w0 2))).trans ?_
      show (q (ix3 b c w) : Int) + ((0 : Nat) : Int) = (l.val : Int)
      omega

end Cert.Plain

end
-- ==== Proof.Setup.lean ====
/-
  The kernel's one launch as the launch theorem sees it, the ghost algebra of its proof, and the arrays by name.

  The program reshapes its argument to 4096 rows of 8192 entries, runs the kernel over them on two SparseCores of sixteen
  tiles each, and reshapes the rows back.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Rows

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem tiles_eq : (K (F := F)).nSub 0 = 16 := rfl
theorem cores_eq : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The ghost algebra: the launch's handshakes, and one counter per transfer in flight. -/
abbrev UU : Type := Rounds.URounds (GSem nD τ sig) ℕ × Counters

end Cert.Rows

end
-- ==== Proof.Hold.lean ====
/-
  A memref held at given readings, and the kernel's memory operations as rules about it.

  `Hold c m q X` says that thread `c` holds share `q` of exactly the elements `m` names, and that `m` reads `X`. The rules say
  what the kernel's gathers, loads, stores, scatters and transfers do to such readings; nothing below speaks of a buffer's
  contents in any other way.
-/
module

public import proofs.«01_k».proof.Proof.Setup

@[expose] public section

noncomputable section

namespace Cert.Rows

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (cc : Fin τ.nSC) (ii : Fin τ.nSub)

/-- Tile `(cc, ii)` holds share `q` of the elements `m` names, and `m` reads `X`. -/
def Hold {sp : Space} {s : Shape} {e : EltTy} (m : Memref sig .scVector sp s e) (q : PosShare TreeShare) (X : s.Idx → Elt F e) : sProp 𝕄 :=
  iprop(∃ f, ⌜m.view.read (Elt F) f = X⌝ ∗ (m.view.loc (V d cc ii) ↦[m.view.set]{q} f))

/-- What a tile's program proves, with the kernel's own procedures and no recursion. -/
abbrev Run {α : Type} (p : Prog (TpuEff nD τ sig (Elt F) Λ₀ (.scVector cc ii)) α) (Q : α → sProp 𝕄) : sProp 𝕄 :=
  wp frame (wpE (defs₀ (F := F)) 𝒱₀ (V d cc ii) none) Set.univ p Q

variable {α : Type}

theorem hold_intro {sp : Space} {s : Shape} {e : EltTy} (m : Memref sig .scVector sp s e) (q : PosShare TreeShare)
    (f : Buf (Elt F) (m.view.loc (V d cc ii))) :
    (m.view.loc (V d cc ii) ↦[m.view.set]{q} f : sProp 𝕄) ⊢ Hold d cc ii m q (m.view.read (Elt F) f) := by
  unfold Hold
  iintro H
  iexists f
  isplitr
  · ipureintro; rfl
  · iexact H

/-- A vector gathered from a slice of a held memref: lane by lane the entry the lane's index names. -/
theorem run_gather {Q : α → sProp 𝕄} {s : Shape} {e : EltTy} {t : Shape} {m : Memref sig .scVector .vmem s e} {r : Rect s} {hr : ∀ a, r.stride a = 1}
    {idxs : Fin r.shape.rank → IVec t 32} {h : ∀ a x, (idxs a x).toNat < r.shape.size a} {hl : (m.slice r hr).view.Loads}
    {k : Vec F t e → Prog (TpuEff nD τ sig (Elt F) Λ₀ (.scVector cc ii)) α} {q : PosShare TreeShare} {X : s.Idx → Elt F e} :
    Hold d cc ii m q X
      ⊢ iprop((Hold d cc ii m q X -∗ Run d cc ii (k (loadIdx (fun y => X (r.emb y)) idxs h)) Q)
          -∗ Run d cc ii (SparseCore.vectorLoadIdx (m.slice r hr) idxs h hl >>= k) Q) := by
  unfold Hold
  iintro ⟨%f, %hf, H⟩ Hk
  have hsub : ((m.slice r hr).access (.whole r.shape)).set ⊆ m.view.set :=
    (View.set_slice_subset _ _).trans (View.set_slice_subset _ _)
  have hread : ((m.slice r hr).access (.whole r.shape)).read (Elt F) f = fun y => X (r.emb y) := by
    subst hf; funext y
    show _root_.cast _ (f (m.view.emb (r.emb ((Rect.whole r.shape).emb y)))) = _
    rw [Rect.emb_whole_apply]; rfl
  iapply (SparseCore.wp_vectorLoadIdx (defs := defs₀ (F := F)) 𝒱₀ (V d cc ii) none Set.univ (base := m.slice r hr) (idxs := idxs) (h := h)
    (hl := hl) (k := k) (S := m.view.set) (q := q) (f := f) hsub) $$ H
  iintro H
  rw [hread]
  iapply Hk
  iexists f
  isplitr
  · ipureintro; exact hf
  · iexact H

/-- A load from a slice of a held memref whose value is not looked at. -/
theorem run_load {Q : α → sProp 𝕄} {s : Shape} {e : EltTy} {m : Memref sig .scVector .vmem s e} {r : Rect s} {hr : ∀ a, r.stride a = 1}
    {r' : Rect r.shape} {hl : (m.slice r hr).view.LoadsAt r'.toLoadRect}
    {k : (r'.shape.Idx → Elt F e) → Prog (TpuEff nD τ sig (Elt F) Λ₀ (.scVector cc ii)) α} {q : PosShare TreeShare} {X : s.Idx → Elt F e} :
    Hold d cc ii m q X
      ⊢ iprop((∀ v, Hold d cc ii m q X -∗ Run d cc ii (k v) Q)
          -∗ Run d cc ii (Prog.lift (.load (m.slice r hr) r'.toLoadRect hl) >>= k) Q) := by
  unfold Hold
  iintro ⟨%f, %hf, H⟩ Hk
  have hsub : ((m.slice r hr).access r').set ⊆ m.view.set :=
    (View.set_slice_subset _ _).trans (View.set_slice_subset _ _)
  iapply (wp_load_rect (defs := defs₀ (F := F)) 𝒱₀ (V d cc ii) none Set.univ (m := m.slice r hr) (r := r') (hl := hl)
    (k := k) (S := m.view.set) (q := q) (f := f) hsub) $$ H
  iintro H
  iapply Hk
  iexists f
  isplitr
  · ipureintro; exact hf
  · iexact H

/-- A store through a rectangle of a slice of a memref held whole: the places under it read what was stored, the others are kept. -/
theorem run_store {Q : α → sProp 𝕄} {s : Shape} {e : EltTy} {m : Memref sig .scVector .vmem s e} {r : Rect s} {hr : ∀ a, r.stride a = 1}
    {r' : Rect r.shape} {w : r'.shape.Idx → Elt F e} {hx : ((m.slice r hr).access r').Stores Finset.univ}
    {hm : (Finset.univ : Finset r'.shape.Idx) = Finset.univ ∨ ∀ a, r'.stride a = 1}
    {k : PUnit → Prog (TpuEff nD τ sig (Elt F) Λ₀ (.scVector cc ii)) α} {X Y : s.Idx → Elt F e}
    (hin : ∀ y, Y (r.emb (r'.emb y)) = w y) (hout : ∀ p, (∀ y, r.emb (r'.emb y) ≠ p) → Y p = X p) :
    Hold d cc ii m fullShare X
      ⊢ iprop((Hold d cc ii m fullShare Y -∗ Run d cc ii (k ⟨⟩) Q)
          -∗ Run d cc ii (Prog.lift (.store (m.slice r hr) r' w Finset.univ hx hm) >>= k) Q) := by
  unfold Hold
  iintro ⟨%f, %hf, H⟩ Hk
  have hsub : ((m.slice r hr).access r').setOn Finset.univ ⊆ m.view.set :=
    (View.set_slice_subset _ _).trans (View.set_slice_subset _ _)
  iapply (wp_store (defs := defs₀ (F := F)) 𝒱₀ (V d cc ii) none Set.univ (m := m.slice r hr) (r := r') (w := w) (Mk := Finset.univ) (hx := hx)
    (hm := hm) (k := k) (S := m.view.set) (f := f) hsub) $$ H
  iintro H
  iapply Hk
  iexists _
  isplitr
  · ipureintro
    funext p
    by_cases hp : ∃ y, r.emb (r'.emb y) = p
    · obtain ⟨y, rfl⟩ := hp
      rw [hin]
      exact View.read_write_of_mem (v := (m.slice r hr).access r') f w (Finset.mem_univ y)
    · rw [hout p fun y hy => hp ⟨y, hy⟩, ← hf, View.read_apply, View.read_apply]
      congr 1
      refine View.write_of_not_mem _ _ _ fun hmem => ?_
      obtain ⟨y, -, hy⟩ := Finset.mem_map.mp hmem
      exact hp ⟨y, m.view.emb.injective hy⟩
  · iexact H

/-- A scatter into a slice of a memref held whole: the slice reads the scatter of what it read, the other places are kept. -/
theorem run_scatter {Q : α → sProp 𝕄} {s : Shape} {e : EltTy} {n : Fin 1 → Nat} {m : Memref sig .scVector .vmem s e} {r : Rect s} {hr : ∀ a, r.stride a = 1}
    {idxs : Fin r.shape.rank → IVec ⟨1, n⟩ 32} {v : Vec F ⟨1, n⟩ e} {mask : IVec ⟨1, n⟩ 1} {add : Bool}
    {h : ∀ a x, (idxs a x).toNat < r.shape.size a} {hs : ((m.slice r hr).access (.whole r.shape)).Stores Finset.univ}
    {k : PUnit → Prog (TpuEff nD τ sig (Elt F) Λ₀ (.scVector cc ii)) α} {X Y : s.Idx → Elt F e}
    (hin : ∀ y, Y (r.emb y) = storeIdx (fun y => X (r.emb y)) idxs v mask add h y) (hout : ∀ p, (∀ y, r.emb y ≠ p) → Y p = X p) :
    Hold d cc ii m fullShare X
      ⊢ iprop((Hold d cc ii m fullShare Y -∗ Run d cc ii (k ⟨⟩) Q)
          -∗ Run d cc ii (SparseCore.vectorStoreIdx (m.slice r hr) idxs v mask add h hs >>= k) Q) := by
  unfold Hold
  iintro ⟨%f, %hf, H⟩ Hk
  have hset : ((m.slice r hr).access (.whole r.shape)).set ⊆ m.view.set :=
    (View.set_slice_subset _ _).trans (View.set_slice_subset _ _)
  have hread : ((m.slice r hr).access (.whole r.shape)).read (Elt F) f = fun y => X (r.emb y) := by
    subst hf; funext y
    show _root_.cast _ (f (m.view.emb (r.emb ((Rect.whole r.shape).emb y)))) = _
    rw [Rect.emb_whole_apply]; rfl
  ihave H := (pointsTo_split_subset (ℓ := m.view.loc (V d cc ii)) (q := fullShare) (f := f) hset).1 $$ H
  icases H with ⟨Hi, Ho⟩
  iapply (SparseCore.wp_vectorStoreIdx (defs := defs₀ (F := F)) 𝒱₀ (V d cc ii) none Set.univ (base := m.slice r hr) (idxs := idxs) (v := v)
    (mask := mask) (add := add) (h := h) (hs := hs) (k := k) (f := f)) $$ Hi
  iintro Hi
  iapply Hk
  rw [hread]
  generalize hW : storeIdx (fun y => X (r.emb y)) idxs v mask add h = W at hin ⊢
  have hkeep : ∀ i ∈ m.view.set \ ((m.slice r hr).access (.whole r.shape)).set,
      f i = ((m.slice r hr).access (.whole r.shape)).write (Elt F) f W Finset.univ i := fun i hi =>
    (View.write_of_not_mem _ _ _ (Finset.mem_sdiff.mp hi).2).symm
  ihave Ho' := (Entails.of_eq (pointsTo_congr (ℓ := m.view.loc (V d cc ii)) (q := fullShare) hkeep)) $$ Ho
  ihave H := (pointsTo_split_subset (ℓ := m.view.loc (V d cc ii)) (q := fullShare)
    (f := ((m.slice r hr).access (.whole r.shape)).write (Elt F) f W Finset.univ) hset).2 $$ [Hi Ho']
  · isplitl [Hi]; · iexact Hi
    iexact Ho'
  iexists ((m.slice r hr).access (.whole r.shape)).write (Elt F) f W Finset.univ
  isplitr
  · ipureintro
    funext p
    by_cases hp : ∃ y, r.emb y = p
    · obtain ⟨y, rfl⟩ := hp
      rw [hin, ← View.read_write_of_mem (v := (m.slice r hr).access (.whole r.shape)) f W (Finset.mem_univ y)]
      rw [View.read_apply, View.read_apply]
      show _ = _root_.cast _ (View.write (Elt F) ((m.slice r hr).access (Rect.whole r.shape)) f W Finset.univ (m.view.emb (r.emb ((Rect.whole r.shape).emb y))))
      rw [Rect.emb_whole_apply]
    · rw [hout p fun y hy => hp ⟨y, hy⟩, ← hf, View.read_apply, View.read_apply]
      congr 1
      refine View.write_of_not_mem _ _ _ fun hmem => ?_
      obtain ⟨y, -, hy⟩ := Finset.mem_map.mp hmem
      exact hp ⟨_, m.view.emb.injective hy⟩
  · iexact H

/-- A transfer in flight on the tile's semaphore `sem` into `dst`: its wait will bring `dst` holding `X`, and the lent `src` back. -/
def Flying {sp sp' : Space} {s : Shape} {e : EltTy} (sem : DmaSem sig) (src : Memref sig .scVector sp s e) (dst : Memref sig .scVector sp' s e)
    (q : PosShare TreeShare) (X : s.Idx → Elt F e) : sProp 𝕄 :=
  Transfers.Flight (countersEmb (U := UU)) (V d cc ii) (.dma sem) (default : HIx 1) dst.view.dmaCredit
    iprop(Hold d cc ii dst fullShare X ∗ Hold d cc ii src q X)

/-- A transfer's start: it takes the two ends and the semaphore at zero, and is then in flight. -/
theorem run_start {Q : α → sProp 𝕄} {sp sp' : Space} {s : Shape} {e : EltTy} {sem : DmaSem sig} {src : Memref sig .scVector sp s e} {dst : Memref sig .scVector sp' s e}
    {hsrc : src.view.WordExact} {hdst : dst.view.WordExact} {hsem : DmaTarget.Typed (nD := nD) (p := Proc.scVector cc ii) sp (.dma sem) (.here dst)}
    {k : PUnit → Prog (TpuEff nD τ sig (Elt F) Λ₀ (.scVector cc ii)) α} {q : PosShare TreeShare} {X Y : s.Idx → Elt F e} (hs : 0 < s.numel) :
    iprop(Hold d cc ii src q X ∗ Hold d cc ii dst fullShare Y ∗ semVal (V d cc ii, .dma sem) 0)
      ⊢ iprop((Flying d cc ii sem src dst q X -∗ Run d cc ii (k ⟨⟩) Q)
          -∗ Run d cc ii (Prog.lift (.enqueueDma src (.here dst) (.dma sem) hsrc hdst hsem) >>= k) Q) := by
  iintro ⟨Hs, Hd, Hv⟩ Hk
  unfold Flying
  unfold Hold
  icases Hs with ⟨%fs, %hfs, Hs⟩
  icases Hd with ⟨%fd, %hfd, Hd⟩
  iapply (Transfers.wp_dmaLocal (defs := defs₀ (F := F)) (countersEmb (U := UU)) 𝒱₀ (V d cc ii) none (src := src) (via := .same) (dst := dst) (sm := .dma sem) (hsrc := hsrc)
    (hdst := hdst) (hsem := hsem) (k := k) (q := q) (fs := fs) (Sd := dst.view.set) (fd := fd) (default : HIx 1) dst.view.dmaCredit rfl
    (View.dmaCredit_pos _ hs) subset_rfl) $$ [Hs Hd Hv]
  · isplitl [Hs]; · iexact Hs
    isplitl [Hd]; · iexact Hd
    iexact Hv
  iintro Hfl
  iapply Hk
  iapply (Transfers.Flight_mono (countersEmb (U := UU)) (V d cc ii) (D := iprop((dst.view.loc (V d cc ii) ↦[dst.view.set]{fullShare} (dst.view.write (Elt F) fd (ReadAs.same.apply (src.view.read (Elt F) fs)) Finset.univ))
                                    ∗ (src.view.loc (V d cc ii) ↦[src.view.set]{q} fs)))) $$ Hfl
  iintro ⟨Hd, Hs⟩
  isplitl [Hd]
  · iexists _
    isplitr
    swap; · iexact Hd
    ipureintro
    rw [View.read_write_univ, hfs]
  · iexists fs
    isplitr
    · ipureintro; exact hfs
    · iexact Hs

/-- A transfer's wait, for a tile that owes `O` and may wait under it: both ends come back, and the semaphore at zero. -/
theorem run_await {Q : α → sProp 𝕄} {sp sp' : Space} {s : Shape} {e : EltTy} {sem : DmaSem sig} {src : Memref sig .scVector sp s e} {dst : Memref sig .scVector sp' s e}
    {src' : Memref sig .scVector sp s e} {dst' : Memref sig .scVector sp' s e} {hsrc : src'.view.WordExact} {hdst : dst'.view.WordExact}
    {k : PUnit → Prog (TpuEff nD τ sig (Elt F) Λ₀ (.scVector cc ii)) α} {q : PosShare TreeShare} {X : s.Idx → Elt F e}
    {O : CellTallies nD τ sig (HIx 1)} {W : Waits sig (HIx 1)} (hcredit : dst'.view.dmaCredit = dst.view.dmaCredit) :
    iprop(Flying d cc ii sem src dst q X ∗ owes (V d cc ii) O W ∗ Transfers.MayWaits (V d cc ii) (default : HIx 1) O)
      ⊢ iprop((iprop(Hold d cc ii dst fullShare X ∗ Hold d cc ii src q X ∗ semVal (V d cc ii, .dma sem) 0 ∗ (∃ W', owes (V d cc ii) O W'))
            -∗ Run d cc ii (k ⟨⟩) Q)
          -∗ Run d cc ii (Prog.lift (.waitDma2 sem src' dst' hsrc hdst) >>= k) Q) := by
  iintro ⟨Hfl, HO, Hmw⟩ Hk
  unfold Flying
  ihave Hw := (Transfers.MayWaits.elim (c := V d cc ii) (ι := (default : HIx 1)) (O := O) (.dma sem)) $$ Hmw
  iapply (Transfers.wp_waitLocalO (defs := defs₀ (F := F)) (countersEmb (U := UU)) 𝒱₀ (V d cc ii) none (srcw := src') (dstw := dst') (hsrc := hsrc)
    (hdst := hdst) (k := k) (default : HIx 1) hcredit) $$ [Hfl HO Hw]
  · isplitl [Hfl]; · iexact Hfl
    isplitl [HO]; · iexact HO
    iexact Hw
  iintro ⟨⟨Hd, Hs⟩, Hv, HO⟩
  iapply Hk
  isplitl [Hd]; · iexact Hd
  isplitl [Hs]; · iexact Hs
  isplitl [Hv]; · iexact Hv
  iexists _; iexact HO

end Cert.Rows

end
-- ==== Proof.Group.lean ====
/-
  One group of a row: what the kernel's trip over 256 entries does to the row it writes.

  The trip gathers the group's sixteen columns from the row read, chooses in each of the sixteen blocks, zeroes the group in the
  row written, and scatters the chosen entries into it.
-/
module

public import proofs.«01_k».proof.Proof.Hold
public import proofs.«01_k».proof.Proof.Pick

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Places -/

/-- Every place of a row is an entry of a block of a group. -/
theorem at3_cover (p : S8192.Idx) : ∃ g x j, p = at3 g x j := by
  have hp : (p 0).val < 8192 := (p 0).isLt
  refine ⟨⟨(p 0).val / 256, by omega⟩, ⟨(p 0).val / 16 % 16, by omega⟩, ⟨(p 0).val % 16, by omega⟩, ?_⟩
  funext a
  have ha : a = 0 := Fin.eq_zero a
  subst ha
  refine Fin.ext ?_
  rw [at3_val]
  dsimp only
  omega

/-- A place of a row is told by its number. -/
theorem place_ext {p p' : S8192.Idx} (h : (p 0).val = (p' 0).val) : p = p' := by
  funext a
  have ha : a = 0 := Fin.eq_zero a
  subst ha
  exact Fin.ext h

/-- The places `16 x + j` lie within a group. -/
theorem fits (j : Fin 16) : ∀ a x, ((![place j] : Fin 1 → IVec S16 32) a x).toNat < S256.size a := by
  intro a x
  have ha : a = 0 := Fin.eq_zero a
  subst ha
  show (place j x).toNat < 256
  rw [place_apply]
  have := j.isLt
  have : (x 0).val < 16 := (x 0).isLt
  omega

/-- The places chosen lie within a group. -/
theorem fits_chosen {v : IVec S16 32} {w : S16.Idx → Fin 16} (hv : ∀ x, v x = place (w x) x) :
    ∀ a x, ((![v] : Fin 1 → IVec S16 32) a x).toNat < S256.size a := by
  intro a x
  have ha : a = 0 := Fin.eq_zero a
  subst ha
  show (v x).toNat < 256
  rw [hv, place_apply]
  have := (w x).isLt
  have : (x 0).val < 16 := (x 0).isLt
  omega

/-- Gathering at the places `16 x + j` of a group's slice gives the group's `j`-th column. -/
theorem gathered (X : S8192.Idx → F .f32) (g : Fin 32) (j : Fin 16) {off : Fin 1 → ℕ} (ho : off = ![256 * g.val])
    {inb : ∀ a, off a + S256.size a ≤ S8192.size a} {v : IVec S16 32} (hv : v = place j)
    (h : ∀ a x, ((![v] : Fin 1 → IVec S16 32) a x).toNat < S256.size a) :
    loadIdx (F := F) (e := .f32) (fun y => X ((Rect.unit (s := S8192) off S256.size inb).emb y)) ![v] h = column X g j := by
  subst ho hv
  funext x
  show X _ = X _
  congr 1
  refine place_ext ?_
  show 256 * g.val + 1 * (place j x).toNat = 256 * g.val + 16 * (x 0).val + j.val
  rw [place_apply]
  omega

/-! ## A scatter whose lanes agree -/

/-- An unmasked scatter at a place: what the lanes that name it say, if they all say `z`; `z` as well where none does and the old
    value is `z`. -/
theorem scattered {s : Shape} {e : EltTy} {n : Fin 1 → ℕ} (f : Vec F s e) (idxs : Fin s.rank → IVec ⟨1, n⟩ 32) (v : Vec F ⟨1, n⟩ e)
    (h : ∀ a x, (idxs a x).toNat < s.size a) (y : s.Idx) (z : Elt F e)
    (hit : ∀ k : Fin (n 0), idxAt idxs h (Shape.ofLane k) = y → v (Shape.ofLane k) = z)
    (miss : (∀ k : Fin (n 0), idxAt idxs h (Shape.ofLane k) ≠ y) → f y = z) :
    storeIdx f idxs v (fun _ => 1#1) false h y = z := by
  have key : ∀ (l : List (Fin (n 0))) (f : Vec F s e), (f y = z ∨ ∃ k ∈ l, idxAt idxs h (Shape.ofLane k) = y) →
      l.foldl (fun g k => fun j => if (∀ a, (j a).val = (idxAt idxs h (Shape.ofLane k) a).val) then v (Shape.ofLane k) else g j) f y = z := by
    intro l
    induction l with
    | nil =>
        intro f hf
        rcases hf with hf | ⟨k, hk, -⟩
        · exact hf
        · exact absurd hk (List.not_mem_nil)
    | cons k l ih =>
        intro f hf
        rw [List.foldl_cons]
        refine ih _ ?_
        by_cases hk : idxAt idxs h (Shape.ofLane k) = y
        · left
          rw [if_pos (fun a => by rw [hk])]
          exact hit k hk
        · rcases hf with hf | ⟨k', hk', e'⟩
          · left
            rw [if_neg (fun hh => hk (funext fun a => Fin.ext (hh a).symm))]
            exact hf
          · right
            rcases List.mem_cons.mp hk' with rfl | hm
            · exact absurd e' hk
            · exact ⟨k', hm, e'⟩
  unfold storeIdx
  simp only [if_true, Bool.false_eq_true, if_false]
  refine key _ f ?_
  by_cases hh : ∃ k : Fin (n 0), idxAt idxs h (Shape.ofLane k) = y
  · obtain ⟨k, hk⟩ := hh
    exact Or.inr ⟨k, List.mem_finRange k, hk⟩
  · exact Or.inl (miss fun k hk => hh ⟨k, hk⟩)

/-! ## The row written, group by group -/

/-- The row written after `g` groups: the result's entries so far, the old ones after them. -/
def upTo (X Y : S8192.Idx → F .f32) (g : ℕ) : S8192.Idx → F .f32 := fun p => if (p 0).val < 256 * g then row X p else Y p

/-- The row written after `g` groups and `k` of the next group's sixteen stores of zeros. -/
def zeroed (X Y : S8192.Idx → F .f32) (g k : ℕ) : S8192.Idx → F .f32 := fun p =>
  if (p 0).val < 256 * g then row X p
  else if (p 0).val < 256 * g + 16 * k then Scalar.ofBits .f32 0x00000000#32 else Y p

theorem upTo_zero (X Y : S8192.Idx → F .f32) : upTo X Y 0 = Y := by
  funext p; exact if_neg (by omega)

theorem upTo_all (X Y : S8192.Idx → F .f32) : upTo X Y 32 = row X := by
  funext p; exact if_pos (show (p 0).val < 8192 from (p 0).isLt)

theorem zeroed_zero (X Y : S8192.Idx → F .f32) (g : ℕ) : zeroed X Y g 0 = upTo X Y g := by
  funext p
  unfold zeroed upTo
  split
  · rfl
  · rw [if_neg (by omega)]

/-- The scatter of the chosen entries completes the group. -/
theorem scatter_at (X Y : S8192.Idx → F .f32) (g : Fin 32) {off : Fin 1 → ℕ} (ho : off = ![256 * g.val])
    {inb : ∀ a, off a + S256.size a ≤ S8192.size a} {u : Vec F S16 .f32} {v : IVec S16 32}
    (hu : ∀ x, u x = block X g (x 0) (pick (block X g (x 0)))) (hv : ∀ x, v x = place (pick (block X g (x 0))) x)
    (h : ∀ a x, ((![v] : Fin 1 → IVec S16 32) a x).toNat < S256.size a) (y : S256.Idx) :
    upTo X Y (g.val + 1) ((Rect.unit (s := S8192) off S256.size inb).emb y)
      = storeIdx (F := F) (s := S256) (e := .f32) (fun y => zeroed X Y g.val 16 ((Rect.unit (s := S8192) off S256.size inb).emb y)) ![v] u (fun _ => 1#1) false h y := by
  subst ho
  have hy : (y 0).val < 256 := (y 0).isLt
  have hemb : (Rect.unit (s := S8192) ![256 * g.val] S256.size inb).emb y = at3 g ⟨(y 0).val / 16, by omega⟩ ⟨(y 0).val % 16, by omega⟩ := by
    refine place_ext ?_
    show 256 * g.val + 1 * (y 0).val = 256 * g.val + 16 * ((y 0).val / 16) + (y 0).val % 16
    omega
  have hval : ((Rect.unit (s := S8192) ![256 * g.val] S256.size inb).emb y 0).val = 256 * g.val + (y 0).val := by
    show 256 * g.val + 1 * (y 0).val = _
    omega
  symm
  have hrow : upTo X Y (g.val + 1) ((Rect.unit (s := S8192) ![256 * g.val] S256.size inb).emb y)
      = row X (at3 g ⟨(y 0).val / 16, by omega⟩ ⟨(y 0).val % 16, by omega⟩) := by
    unfold upTo
    rw [if_pos (by rw [hval]; omega), hemb]
  rw [hrow, row_at]
  refine scattered (F := F) (s := S256) (e := .f32) _ _ _ _ y _ ?_ ?_
  · intro k hk
    rw [hu]
    have hplace : (idxAt (s := S256) ![v] h (Shape.ofLane k) 0).val = (y 0).val := by rw [hk]
    have h0 : ((Shape.ofLane k : S16.Idx) 0) = k := rfl
    have hv' : (v (Shape.ofLane k)).toNat = (y 0).val := hplace
    rw [hv, place_apply, h0] at hv'
    rw [h0]
    have hj := (pick (block X g k)).isLt
    have hx : (⟨(y 0).val / 16, by omega⟩ : Fin 16) = k := Fin.ext (by
      show (y 0).val / 16 = k.val
      omega)
    rw [hx]
    have hp : pick (block X g k) = ⟨(y 0).val % 16, by omega⟩ := Fin.ext (by
      show (pick (block X g k)).val = (y 0).val % 16
      omega)
    rw [if_pos hp, ← hp]
  · intro hno
    have hne : ¬ pick (block X g ⟨(y 0).val / 16, by omega⟩) = ⟨(y 0).val % 16, by omega⟩ := by
      intro hp
      refine hno (⟨(y 0).val / 16, by omega⟩ : Fin 16) ?_
      funext a
      have ha : a = 0 := Fin.eq_zero a
      subst ha
      refine Fin.ext ?_
      show (v (Shape.ofLane (d := ![16]) (⟨(y 0).val / 16, by omega⟩ : Fin 16))).toNat = (y 0).val
      rw [hv, place_apply]
      show 16 * ((y 0).val / 16) + (pick (block X g ⟨(y 0).val / 16, by omega⟩)).val = (y 0).val
      rw [hp]
      show 16 * ((y 0).val / 16) + (y 0).val % 16 = (y 0).val
      omega
    rw [if_neg hne]
    unfold zeroed
    rw [if_neg (by rw [hval]; omega), if_pos (by rw [hval]; omega)]

/-- Outside the group the scatter keeps what the stores of zeros left. -/
theorem scatter_off (X Y : S8192.Idx → F .f32) (g : Fin 32) {off : Fin 1 → ℕ} (ho : off = ![256 * g.val])
    {inb : ∀ a, off a + S256.size a ≤ S8192.size a} (p : S8192.Idx) (hp : ∀ y, (Rect.unit (s := S8192) off S256.size inb).emb y ≠ p) :
    upTo X Y (g.val + 1) p = zeroed X Y g.val 16 p := by
  subst ho
  by_cases h : 256 * g.val ≤ (p 0).val ∧ (p 0).val < 256 * g.val + 256
  · refine absurd ?_ (hp fun a => ⟨(p 0).val - 256 * g.val, by
      have ha : a = 0 := Fin.eq_zero a
      subst ha
      show (p 0).val - 256 * g.val < 256
      omega⟩)
    refine place_ext ?_
    show 256 * g.val + 1 * ((p 0).val - 256 * g.val) = (p 0).val
    omega
  · unfold upTo zeroed
    by_cases h' : (p 0).val < 256 * g.val
    · rw [if_pos (by omega), if_pos h']
    · rw [if_neg (by omega), if_neg h', if_neg (by omega)]

/-- The `k`-th store of zeros, under its sixteen places. -/
theorem zero_at (X Y : S8192.Idx → F .f32) (g : Fin 32) {off off' : Fin 1 → ℕ} (ho : off = ![256 * g.val]) (k : ℕ) (hk : k < 16) (ho' : off' = ![16 * k])
    {inb : ∀ a, off a + S256.size a ≤ S8192.size a} {inb' : ∀ a, off' a + S16.size a ≤ S256.size a} (y : S16.Idx) :
    zeroed X Y g.val (k + 1) ((Rect.unit (s := S8192) off S256.size inb).emb ((Rect.unit (s := S256) off' S16.size inb').emb y))
      = k0_pay70 (F := F) y := by
  subst ho ho'
  have hy : (y 0).val < 16 := (y 0).isLt
  have hval : ((Rect.unit (s := S8192) ![256 * g.val] S256.size inb).emb ((Rect.unit (s := S256) ![16 * k] S16.size inb').emb y) 0).val
      = 256 * g.val + (16 * k + (y 0).val) := by
    show 256 * g.val + 1 * (16 * k + 1 * (y 0).val) = _
    omega
  unfold zeroed
  rw [if_neg (by rw [hval]; omega), if_pos (by rw [hval]; omega)]
  rfl

/-- The `k`-th store of zeros, off its sixteen places. -/
theorem zero_off (X Y : S8192.Idx → F .f32) (g : Fin 32) {off off' : Fin 1 → ℕ} (ho : off = ![256 * g.val]) (k : ℕ) (hk : k < 16) (ho' : off' = ![16 * k])
    {inb : ∀ a, off a + S256.size a ≤ S8192.size a} {inb' : ∀ a, off' a + S16.size a ≤ S256.size a} (p : S8192.Idx)
    (hp : ∀ y, (Rect.unit (s := S8192) off S256.size inb).emb ((Rect.unit (s := S256) off' S16.size inb').emb y) ≠ p) :
    zeroed X Y g.val (k + 1) p = zeroed X Y g.val k p := by
  subst ho ho'
  by_cases h : 256 * g.val + 16 * k ≤ (p 0).val ∧ (p 0).val < 256 * g.val + 16 * k + 16
  · refine absurd ?_ (hp fun a => ⟨(p 0).val - (256 * g.val + 16 * k), by
      have ha : a = 0 := Fin.eq_zero a
      subst ha
      show (p 0).val - (256 * g.val + 16 * k) < 16
      omega⟩)
    refine place_ext ?_
    show 256 * g.val + 1 * (16 * k + 1 * ((p 0).val - (256 * g.val + 16 * k))) = (p 0).val
    omega
  · unfold zeroed
    by_cases h' : (p 0).val < 256 * g.val
    · rw [if_pos h', if_pos h']
    · rw [if_neg h', if_neg h']
      by_cases h'' : (p 0).val < 256 * g.val + 16 * k
      · rw [if_pos (by omega), if_pos h'']
      · rw [if_neg (by omega), if_neg h'']

end Cert.Rows

end
-- ==== Proof.Trip.lean ====
/-
  The kernel's trip over one group, run: the row read is kept, the row written gains the group.
-/
module

public import proofs.«01_k».proof.Proof.Group

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A side condition that holds is no step. -/
theorem run_assume (d : Dev nD) (cc : Fin τ.nSC) (ii : Fin τ.nSub) {α : Type} {Q : α → sProp 𝕄} {P : Prop} {dec : Decidable P}
    {k : PLift P → Prog (TpuEff nD τ sig (Elt F) Λ₀ (.scVector cc ii)) α} (h : P) :
    Run d cc ii (k ⟨h⟩) Q ⊢ Run d cc ii (Prog.lift (.assume P dec) >>= k) Q :=
  Entails.of_eq (wp_assume_of (defs := defs₀ (F := F)) 𝒱₀ (V d cc ii) none Set.univ (k := k) h).symm

/-- A column of a group, gathered. -/
theorem run_column (d : Dev nD) (cc : Fin τ.nSC) (ii : Fin τ.nSub) {α : Type} {Q : α → sProp 𝕄} (g : Fin 32) (j : Fin 16)
    {m : Memref sig .scVector .vmem S8192 .f32} {off : Fin 1 → ℕ} (ho : off = ![256 * g.val])
    {inb : ∀ a, off a + S256.size a ≤ S8192.size a} {hr : ∀ a, (Rect.unit (s := S8192) off S256.size inb).stride a = 1}
    {v : IVec S16 32} (hv : v = place j) {h : ∀ a x, ((![v] : Fin 1 → IVec S16 32) a x).toNat < S256.size a}
    {hl : (m.slice (Rect.unit (s := S8192) off S256.size inb) hr).view.Loads}
    {k : Vec F S16 .f32 → Prog (TpuEff nD τ sig (Elt F) Λ₀ (.scVector cc ii)) α} {q : PosShare TreeShare} {X : S8192.Idx → F .f32} :
    Hold d cc ii m q X
      ⊢ iprop((Hold d cc ii m q X -∗ Run d cc ii (k (column X g j)) Q)
          -∗ Run d cc ii (SparseCore.vectorLoadIdx (m.slice (Rect.unit (s := S8192) off S256.size inb) hr) ![v] h hl >>= k) Q) := by
  rw [← gathered X g j ho (inb := inb) hv h]
  exact run_gather d cc ii

/-- A program that is a value has run. -/
theorem run_pure (d : Dev nD) (cc : Fin τ.nSC) (ii : Fin τ.nSub) {α : Type} {Q : α → sProp 𝕄} (a : α) :
    Q a ⊢ Run d cc ii (pure a) Q := by
  unfold Run
  rw [wp_pure]
  iintro H
  imodintro
  iexact H

/-- A program in two parts runs part by part. -/
theorem run_bind (d : Dev nD) (cc : Fin τ.nSC) (ii : Fin τ.nSub) {α β : Type} {Q : β → sProp 𝕄}
    (p : Prog (TpuEff nD τ sig (Elt F) Λ₀ (.scVector cc ii)) α) (k : α → Prog (TpuEff nD τ sig (Elt F) Λ₀ (.scVector cc ii)) β) :
    Run d cc ii p (fun a => Run d cc ii (k a) Q) ⊢ Run d cc ii (p >>= k) Q :=
  Entails.of_eq (wp_bind _ _ _ p k Q).symm

/-- The `k`-th store of zeros into a group. -/
theorem run_zero (d : Dev nD) (cc : Fin τ.nSC) (ii : Fin τ.nSub) {α : Type} {Q : α → sProp 𝕄} (g : Fin 32) (k : ℕ) (hk : k < 16)
    {m : Memref sig .scVector .vmem S8192 .f32} {off off' : Fin 1 → ℕ} (ho : off = ![256 * g.val]) (ho' : off' = ![16 * k])
    {inb : ∀ a, off a + S256.size a ≤ S8192.size a} {inb' : ∀ a, off' a + S16.size a ≤ S256.size a}
    {hr : ∀ a, (Rect.unit (s := S8192) off S256.size inb).stride a = 1}
    {hx : ((m.slice (Rect.unit (s := S8192) off S256.size inb) hr).access (Rect.unit (s := S256) off' S16.size inb')).Stores Finset.univ}
    {hm : (Finset.univ : Finset (Rect.unit (s := S256) off' S16.size inb').shape.Idx) = Finset.univ ∨ ∀ a, (Rect.unit (s := S256) off' S16.size inb').stride a = 1}
    {c : PUnit → Prog (TpuEff nD τ sig (Elt F) Λ₀ (.scVector cc ii)) α} {X Y : S8192.Idx → F .f32} :
    Hold d cc ii m fullShare (zeroed X Y g.val k)
      ⊢ iprop((Hold d cc ii m fullShare (zeroed X Y g.val (k + 1)) -∗ Run d cc ii (c ⟨⟩) Q)
          -∗ Run d cc ii (Prog.lift (.store (m.slice (Rect.unit (s := S8192) off S256.size inb) hr) (Rect.unit (s := S256) off' S16.size inb') (k0_pay70 (F := F)) Finset.univ hx hm) >>= c) Q) :=
  run_store d cc ii (zero_at X Y g ho k hk ho') (zero_off X Y g ho k hk ho')

/-- The scatter of the chosen entries into a group of zeros. -/
theorem run_chosen (d : Dev nD) (cc : Fin τ.nSC) (ii : Fin τ.nSub) {α : Type} {Q : α → sProp 𝕄} (g : Fin 32)
    {m : Memref sig .scVector .vmem S8192 .f32} {off : Fin 1 → ℕ} (ho : off = ![256 * g.val])
    {inb : ∀ a, off a + S256.size a ≤ S8192.size a} {hr : ∀ a, (Rect.unit (s := S8192) off S256.size inb).stride a = 1}
    {X Y : S8192.Idx → F .f32} {u : Vec F S16 .f32} {v : IVec S16 32}
    (hu : ∀ x, u x = block X g (x 0) (pick (block X g (x 0)))) (hv : ∀ x, v x = place (pick (block X g (x 0))) x)
    {h : ∀ a x, ((![v] : Fin 1 → IVec S16 32) a x).toNat < S256.size a}
    {hs : ((m.slice (Rect.unit (s := S8192) off S256.size inb) hr).access (.whole S256)).Stores Finset.univ}
    {c : PUnit → Prog (TpuEff nD τ sig (Elt F) Λ₀ (.scVector cc ii)) α} :
    Hold d cc ii m fullShare (zeroed X Y g.val 16)
      ⊢ iprop((Hold d cc ii m fullShare (upTo X Y (g.val + 1)) -∗ Run d cc ii (c ⟨⟩) Q)
          -∗ Run d cc ii (SparseCore.vectorStoreIdx (m.slice (Rect.unit (s := S8192) off S256.size inb) hr) ![v] u (fun _ => 1#1) false h hs >>= c) Q) :=
  run_scatter d cc ii (scatter_at X Y g ho hu hv h) (scatter_off X Y g ho)

/-! The vectors of places the trip gathers at, in its order. -/

theorem index0 : k0_pay2 k0_pay1 = place 0 := rfl
theorem index1 : k0_pay4 k0_pay1 = place 1 := rfl
theorem index2 : k0_pay8 k0_pay1 = place 2 := rfl
theorem index3 : k0_pay12 k0_pay1 = place 3 := rfl
theorem index4 : k0_pay16 k0_pay1 = place 4 := rfl
theorem index5 : k0_pay22 k0_pay1 = place 5 := rfl
theorem index6 : k0_pay26 k0_pay1 = place 6 := rfl
theorem index7 : k0_pay30 k0_pay1 = place 7 := rfl
theorem index8 : k0_pay36 k0_pay1 = place 8 := rfl
theorem index9 : k0_pay38 k0_pay1 = place 9 := rfl
theorem index10 : k0_pay42 k0_pay1 = place 10 := rfl
theorem index11 : k0_pay48 k0_pay1 = place 11 := rfl
theorem index12 : k0_pay52 k0_pay1 = place 12 := rfl
theorem index13 : k0_pay56 k0_pay1 = place 13 := rfl
theorem index14 : k0_pay60 k0_pay1 = place 14 := rfl
theorem index15 : k0_pay64 k0_pay1 = place 15 := rfl

/-- The trip's number among the row's thirty-two groups. -/
abbrev groupOf (t : Fin k0_t2_loop.trips) : Fin 32 := ⟨t.val, t.isLt⟩

/-- The `j`-th column of the trip's group. -/
abbrev col (X : S8192.Idx → F .f32) (t : Fin k0_t2_loop.trips) (j : Fin 16) : Vec F S16 .f32 := column X (groupOf t) j

section Trip

variable (d : Dev nD) (i : grid0.Coords) (a2 : Memref sig .scVector .hbm S4096x8192 .f32) (h2 : a2.IsWhole) (a3 : Memref sig .scVector .hbm S4096x8192 .f32) (h3 : a3.IsWhole)
  (a4 : Memref sig .scVector .vmem S8192 .f32) (h4 : a4.IsWhole) (a5 : Memref sig .scVector .vmem S8192 .f32) (h5 : a5.IsWhole)
  (a6 : Memref sig .scVector .vmem S8192 .f32) (h6 : a6.IsWhole) (a7 : Memref sig .scVector .vmem S8192 .f32) (h7 : a7.IsWhole)
  (s8 s9 s10 s11 : DmaSems sig S_) (v2 c0 c1 : BitVec 32) (t1 : Fin k0_t1_loop.trips) (t : Fin k0_t2_loop.trips)
  (q : PosShare TreeShare) (X Y : S8192.Idx → F .f32)

/-- The tile the coordinates name. -/
abbrev coreOf : Fin τ.nSC := (i 0).castLE hcore0
/-- The tile the coordinates name. -/
abbrev tileOf : Fin τ.nSub := (i 1).castLE hsub0

/-- The first six columns. -/
theorem run_part1 {Q : _ → sProp 𝕄} :
    Hold d (coreOf i) (tileOf i) a4 q X
      ⊢ iprop((Hold d (coreOf i) (tileOf i) a4 q X
            -∗ Q ⟨k0_pay19 (col X t 0) (col X t 1) (col X t 2) (col X t 3) (col X t 4),
                  k0_pay20 (col X t 0) (col X t 1) (col X t 2) (col X t 3) (col X t 4),
                  k0_pay21 (place 0) (col X t 0) (place 1) (col X t 1) (place 2) (col X t 2) (place 3) (col X t 3) (place 4) (col X t 4),
                  place 5, col X t 5⟩)
          -∗ Run d (coreOf i) (tileOf i) (k0_part1 (F := F) i a2 h2 a3 h3 a4 h4 a5 h5 a6 h6 a7 h7 s8 s9 s10 s11 k0_pay1 0#32 1#32 t) Q) := by
  rw [k0_part1_eq_skeleton]
  dsimp only [k0_part1_skel]
  rw [index0, index1, index2, index3, index4, index5]
  iintro H Hk
  iapply (run_assume d _ _ (fits 0))
  iapply (run_column d _ _ (groupOf t) 0 (k0_off5_eq t) rfl) $$ H; iintro H
  iapply (run_assume d _ _ (fits 1))
  iapply (run_column d _ _ (groupOf t) 1 (k0_off6_eq t) rfl) $$ H; iintro H
  iapply (run_assume d _ _ (fits 2))
  iapply (run_column d _ _ (groupOf t) 2 (k0_off7_eq t) rfl) $$ H; iintro H
  iapply (run_assume d _ _ (fits 3))
  iapply (run_column d _ _ (groupOf t) 3 (k0_off8_eq t) rfl) $$ H; iintro H
  iapply (run_assume d _ _ (fits 4))
  iapply (run_column d _ _ (groupOf t) 4 (k0_off9_eq t) rfl) $$ H; iintro H
  iapply (run_assume d _ _ (fits 5))
  iapply (run_column d _ _ (groupOf t) 5 (k0_off10_eq t) rfl) $$ H; iintro H
  iapply (run_pure d _ _)
  iapply Hk; iexact H

/-- The next five columns, and the twelfth's places found to be within the group. -/
theorem run_part2 (v102 v103 : Vec F S16 .f32) (v104 v106 : IVec S16 32) (v108 : Vec F S16 .f32) {Q : _ → sProp 𝕄} :
    Hold d (coreOf i) (tileOf i) a4 q X
      ⊢ iprop((Hold d (coreOf i) (tileOf i) a4 q X
            -∗ Q ⟨k0_pay33 v102 v108 (col X t 6) (col X t 7), k0_pay34 v102 v103 v108 (col X t 6) (col X t 7), k0_pay35 v102 v104 v106 v108 (place 6) (col X t 6) (place 7) (col X t 7),
                  k0_pay45 (col X t 8) (col X t 9) (col X t 10), k0_pay46 (col X t 8) (col X t 9) (col X t 10), k0_pay47 (place 8) (col X t 8) (place 9) (col X t 9) (place 10) (col X t 10),
                  place 11, fits 11⟩)
          -∗ Run d (coreOf i) (tileOf i) (k0_part2 (F := F) i a2 h2 a3 h3 a4 h4 a5 h5 a6 h6 a7 h7 s8 s9 s10 s11 k0_pay1 t v102 v103 v104 v106 v108) Q) := by
  rw [k0_part2_eq_skeleton]
  dsimp only [k0_part2_skel]
  rw [index6, index7, index8, index9, index10, index11]
  iintro H Hk
  iapply (run_assume d _ _ (fits 6))
  iapply (run_column d _ _ (groupOf t) 6 (k0_off11_eq t) rfl) $$ H; iintro H
  iapply (run_assume d _ _ (fits 7))
  iapply (run_column d _ _ (groupOf t) 7 (k0_off12_eq t) rfl) $$ H; iintro H
  iapply (run_assume d _ _ (fits 8))
  iapply (run_column d _ _ (groupOf t) 8 (k0_off13_eq t) rfl) $$ H; iintro H
  iapply (run_assume d _ _ (fits 9))
  iapply (run_column d _ _ (groupOf t) 9 (k0_off14_eq t) rfl) $$ H; iintro H
  iapply (run_assume d _ _ (fits 10))
  iapply (run_column d _ _ (groupOf t) 10 (k0_off15_eq t) rfl) $$ H; iintro H
  iapply (run_assume d _ _ (fits 11))
  iapply (run_pure d _ _)
  iapply Hk; iexact H

/-- The last five columns, the choice, and the chosen places found to be within the group. -/
theorem run_part3 (v129 v130 : Vec F S16 .f32) (v131 : IVec S16 32) (v152 v153 : Vec F S16 .f32) (v154 : IVec S16 32)
    (Z : S8192.Idx → F .f32)
    (h : k0_chk17 (k0_pay69 v129 v131 v152 v154 (place 11) (col X t 11) (place 12) (col X t 12) (place 13) (col X t 13) (place 14) (col X t 14) (place 15) (col X t 15))) {Q : _ → sProp 𝕄} :
    iprop(Hold d (coreOf i) (tileOf i) a4 q X ∗ Hold d (coreOf i) (tileOf i) a6 fullShare Z)
      ⊢ iprop((iprop(Hold d (coreOf i) (tileOf i) a4 q X ∗ Hold d (coreOf i) (tileOf i) a6 fullShare Z)
            -∗ Q ⟨k0_pay68 v129 v130 v152 v153 (col X t 11) (col X t 12) (col X t 13) (col X t 14) (col X t 15),
                  k0_pay69 v129 v131 v152 v154 (place 11) (col X t 11) (place 12) (col X t 12) (place 13) (col X t 13) (place 14) (col X t 14) (place 15) (col X t 15), h, k0_pay70⟩)
          -∗ Run d (coreOf i) (tileOf i) (k0_part3 (F := F) i a2 h2 a3 h3 a4 h4 a5 h5 a6 h6 a7 h7 s8 s9 s10 s11 k0_pay1 t v129 v130 v131 v152 v153 v154 (place 11) (fits 11)) Q) := by
  rw [k0_part3_eq_skeleton]
  dsimp only [k0_part3_skel]
  rw [index12, index13, index14, index15]
  iintro ⟨H, Ho⟩ Hk
  iapply (run_column d _ _ (groupOf t) 11 (k0_off16_eq t) rfl) $$ H; iintro H
  iapply (run_assume d _ _ (fits 12))
  iapply (run_column d _ _ (groupOf t) 12 (k0_off17_eq t) rfl) $$ H; iintro H
  iapply (run_assume d _ _ (fits 13))
  iapply (run_column d _ _ (groupOf t) 13 (k0_off18_eq t) rfl) $$ H; iintro H
  iapply (run_assume d _ _ (fits 14))
  iapply (run_column d _ _ (groupOf t) 14 (k0_off19_eq t) rfl) $$ H; iintro H
  iapply (run_assume d _ _ (fits 15))
  iapply (run_column d _ _ (groupOf t) 15 (k0_off20_eq t) rfl) $$ H; iintro H
  iapply (run_assume d _ _ h)
  iapply (run_load d _ _) $$ Ho; iintro %v Ho
  iapply (run_pure d _ _)
  iapply Hk
  isplitl [H]; · iexact H
  iexact Ho

/-- Fifteen of the sixteen stores of zeros into the group. -/
theorem run_part4 {Q : _ → sProp 𝕄} :
    Hold d (coreOf i) (tileOf i) a6 fullShare (zeroed X Y (groupOf t).val 0)
      ⊢ iprop((Hold d (coreOf i) (tileOf i) a6 fullShare (zeroed X Y (groupOf t).val 15) -∗ Q ⟨⟩)
          -∗ Run d (coreOf i) (tileOf i) (k0_part4 (F := F) i a2 h2 a3 h3 a4 h4 a5 h5 a6 h6 a7 h7 s8 s9 s10 s11 t k0_pay70) Q) := by
  rw [k0_part4_eq_skeleton]
  dsimp only [k0_part4_skel]
  iintro H Hk
  iapply (run_zero d _ _ (X := X) (Y := Y) (groupOf t) 0 (by decide) (k0_off21_eq t) rfl) $$ H; iintro H
  iapply (run_load d _ _) $$ H; iintro %v H
  iapply (run_zero d _ _ (X := X) (Y := Y) (groupOf t) 1 (by decide) (k0_off21_eq t) rfl) $$ H; iintro H
  iapply (run_load d _ _) $$ H; iintro %v H
  iapply (run_zero d _ _ (X := X) (Y := Y) (groupOf t) 2 (by decide) (k0_off21_eq t) rfl) $$ H; iintro H
  iapply (run_load d _ _) $$ H; iintro %v H
  iapply (run_zero d _ _ (X := X) (Y := Y) (groupOf t) 3 (by decide) (k0_off21_eq t) rfl) $$ H; iintro H
  iapply (run_load d _ _) $$ H; iintro %v H
  iapply (run_zero d _ _ (X := X) (Y := Y) (groupOf t) 4 (by decide) (k0_off21_eq t) rfl) $$ H; iintro H
  iapply (run_load d _ _) $$ H; iintro %v H
  iapply (run_zero d _ _ (X := X) (Y := Y) (groupOf t) 5 (by decide) (k0_off21_eq t) rfl) $$ H; iintro H
  iapply (run_load d _ _) $$ H; iintro %v H
  iapply (run_zero d _ _ (X := X) (Y := Y) (groupOf t) 6 (by decide) (k0_off21_eq t) rfl) $$ H; iintro H
  iapply (run_load d _ _) $$ H; iintro %v H
  iapply (run_zero d _ _ (X := X) (Y := Y) (groupOf t) 7 (by decide) (k0_off21_eq t) rfl) $$ H; iintro H
  iapply (run_load d _ _) $$ H; iintro %v H
  iapply (run_zero d _ _ (X := X) (Y := Y) (groupOf t) 8 (by decide) (k0_off21_eq t) rfl) $$ H; iintro H
  iapply (run_load d _ _) $$ H; iintro %v H
  iapply (run_zero d _ _ (X := X) (Y := Y) (groupOf t) 9 (by decide) (k0_off21_eq t) rfl) $$ H; iintro H
  iapply (run_load d _ _) $$ H; iintro %v H
  iapply (run_zero d _ _ (X := X) (Y := Y) (groupOf t) 10 (by decide) (k0_off21_eq t) rfl) $$ H; iintro H
  iapply (run_load d _ _) $$ H; iintro %v H
  iapply (run_zero d _ _ (X := X) (Y := Y) (groupOf t) 11 (by decide) (k0_off21_eq t) rfl) $$ H; iintro H
  iapply (run_load d _ _) $$ H; iintro %v H
  iapply (run_zero d _ _ (X := X) (Y := Y) (groupOf t) 12 (by decide) (k0_off21_eq t) rfl) $$ H; iintro H
  iapply (run_load d _ _) $$ H; iintro %v H
  iapply (run_zero d _ _ (X := X) (Y := Y) (groupOf t) 13 (by decide) (k0_off21_eq t) rfl) $$ H; iintro H
  iapply (run_load d _ _) $$ H; iintro %v H
  iapply (run_zero d _ _ (X := X) (Y := Y) (groupOf t) 14 (by decide) (k0_off21_eq t) rfl) $$ H; iintro H
  iapply (run_load d _ _) $$ H; iintro %v H
  iapply (run_pure d _ _)
  iapply Hk; iexact H

/-- One trip: the row read is kept, and the row written gains the trip's group. -/
theorem run_trip {Q : _ → sProp 𝕄} :
    iprop(Hold d (coreOf i) (tileOf i) a4 q X ∗ Hold d (coreOf i) (tileOf i) a6 fullShare (upTo X Y t.val))
      ⊢ iprop((iprop(Hold d (coreOf i) (tileOf i) a4 q X ∗ Hold d (coreOf i) (tileOf i) a6 fullShare (upTo X Y (t.val + 1))) -∗ Q ⟨⟩)
          -∗ Run d (coreOf i) (tileOf i) (k0_t2_body (F := F) i a2 h2 a3 h3 a4 h4 a5 h5 a6 h6 a7 h7 s8 s9 s10 s11 v2 k0_pay1 c0 c1 t1 t ⟨⟩) Q) := by
  dsimp only [k0_t2_body]
  iintro ⟨H, Ho⟩ Hk
  iapply (run_bind d _ _)
  iapply (run_part1 d) $$ H; iintro H
  dsimp only
  iapply (run_bind d _ _)
  iapply (run_part2 d) $$ H; iintro H
  dsimp only
  iapply (run_bind d _ _)
  iapply (run_part3 d (h := fits_chosen (kept_place X (groupOf t)))) $$ [H Ho]
  · isplitl [H]; · iexact H
    iexact Ho
  iintro ⟨H, Ho⟩
  dsimp only
  rw [← zeroed_zero X Y t.val]
  iapply (run_bind d _ _)
  iapply (run_part4 d) $$ Ho; iintro Ho
  iapply (run_zero d _ _ (X := X) (Y := Y) (groupOf t) 15 (by decide) (k0_off21_eq t) rfl) $$ Ho; iintro Ho
  iapply (run_chosen d _ _ (X := X) (Y := Y) (groupOf t) (k0_off21_eq t) (kept_value X (groupOf t)) (kept_place X (groupOf t))) $$ Ho; iintro Ho
  iapply (run_pure d _ _)
  iapply Hk
  isplitl [H]; · iexact H
  iexact Ho

end Trip

end Cert.Rows

end
-- ==== Proof.Lane.lean ====
/-
  One of a tile's two lanes: the rows it takes in turn, the transfer that brings its next row, the transfer that takes its last
  result away.

  A lane has a buffer rows come into, a buffer results leave from, and a semaphore for each. Before its turn `c` the row of turn
  `c` is on its way in and the result of turn `c - 1` is on its way out; all other rows are at hand, those of earlier turns done.
-/
module

public import proofs.«01_k».proof.Proof.Trip

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## A family of sixty-four without one member -/

/-- The family without member `n - 1` (with all its members where there is none such). -/
def missing (n : ℕ) (Φ : Fin 64 → sProp 𝕄) : sProp 𝕄 := bigSep (Finset.univ.filter fun k : Fin 64 => k.val + 1 ≠ n) Φ

theorem missing_none {n : ℕ} (h : ∀ k : Fin 64, k.val + 1 ≠ n) (Φ : Fin 64 → sProp 𝕄) : missing n Φ = bigSep Finset.univ Φ := by
  unfold missing
  rw [Finset.filter_true_of_mem fun k _ => h k]

theorem missing_one (k : Fin 64) (Φ : Fin 64 → sProp 𝕄) : bigSep Finset.univ Φ = iprop(Φ k ∗ missing (k.val + 1) Φ) := by
  unfold missing
  rw [SparseCore.bigSep_erase' (Finset.mem_univ k)]
  congr 2
  ext j
  rw [Finset.mem_erase, Finset.mem_filter, ne_eq, Fin.ext_iff]
  constructor
  · rintro ⟨h, -⟩; exact ⟨Finset.mem_univ _, fun h' => h (by omega)⟩
  · rintro ⟨-, h⟩; exact ⟨fun h' => h (by omega), Finset.mem_univ _⟩

theorem missing_congr {n : ℕ} {Φ Ψ : Fin 64 → sProp 𝕄} (h : ∀ k : Fin 64, k.val + 1 ≠ n → Φ k = Ψ k) : missing n Φ = missing n Ψ :=
  bigSep_congr fun k hk => h k (Finset.mem_filter.mp hk).2

/-! ## Rows of the arrays -/

theorem row_inb (r : Fin 4096) : ∀ a, (![r.val, 0] : Fin 2 → ℕ) a + S1x8192.size a ≤ S4096x8192.size a := by
  intro a
  have := r.isLt
  match a with
  | 0 => show r.val + 1 ≤ 4096; omega
  | 1 => show 0 + 8192 ≤ 8192; omega

/-- Row `r` of an array of 4096 rows. -/
abbrev theRow (m : Memref sig .scVector .hbm S4096x8192 .f32) (r : Fin 4096) : Memref sig .scVector .hbm S8192 .f32 :=
  (m.slice (Rect.unit (s := S4096x8192) ![r.val, 0] S1x8192.size (row_inb r)) (fun _ => rfl)).squeeze S8192 squeezes_S1x8192_S8192

section Lane

variable (d : Dev nD) (cc : Fin τ.nSC) (ii : Fin τ.nSub)

/-- The tile's record of its waits. -/
def Owed (O : CellTallies nD τ sig (HIx 1)) : sProp 𝕄 := iprop(∃ W, owes (V d cc ii) O W)

variable (bi bo : Memref sig .scVector .vmem S8192 .f32) (si so : DmaSem sig) (x o : Memref sig .scVector .hbm S4096x8192 .f32)
  (ρ : Fin 64 → Fin 4096) (A B : Fin 4096 → S8192.Idx → F .f32)

/-- The row read on turn `k`. -/
def Src (k : Fin 64) : sProp 𝕄 := Hold d cc ii (theRow x (ρ k)) fullShare (A (ρ k))

/-- The row written on turn `k`, before turn `c`: done or as it was. -/
def Dst (c : ℕ) (k : Fin 64) : sProp 𝕄 := Hold d cc ii (theRow o (ρ k)) fullShare (if k.val < c then row (A (ρ k)) else B (ρ k))

/-- A buffer idle: holding something, and its semaphore at zero. -/
def Idle (b : Memref sig .scVector .vmem S8192 .f32) (s : DmaSem sig) : sProp 𝕄 :=
  iprop((∃ Z, Hold (F := F) d cc ii b fullShare Z) ∗ semVal (V d cc ii, .dma s) 0)

/-- The way in before turn `c`: the turn's row is on its way, if there is one. -/
def Into (c : ℕ) : sProp 𝕄 :=
  if h : c < 64 then Flying d cc ii si (theRow x (ρ ⟨c, h⟩)) bi fullShare (A (ρ ⟨c, h⟩)) else Idle (F := F) d cc ii bi si

/-- The way out before turn `c`: the result of the turn before is on its way, if there was one. -/
def OutOf (c : ℕ) : sProp 𝕄 :=
  if h : 0 < c ∧ c - 1 < 64 then Flying d cc ii so bo (theRow o (ρ ⟨c - 1, h.2⟩)) fullShare (row (A (ρ ⟨c - 1, h.2⟩))) else Idle (F := F) d cc ii bo so

variable {α : Type} {O : CellTallies nD τ sig (HIx 1)}

/-- Waiting for turn `c`'s row. -/
theorem lane_await {Q : α → sProp 𝕄} {src' : Memref sig .scVector .hbm S8192 .f32} {hsrc : src'.view.WordExact} {hdst : bi.view.WordExact}
    {k : PUnit → Prog (TpuEff nD τ sig (Elt F) Λ₀ (.scVector cc ii)) α} (c : Fin 64) :
    iprop((missing (c.val + 1) (Src d cc ii x ρ A) ∗ Into d cc ii bi si x ρ A c.val) ∗ Owed d cc ii O ∗ Transfers.MayWaits (V d cc ii) (default : HIx 1) O)
      ⊢ iprop((iprop(bigSep Finset.univ (Src d cc ii x ρ A) ∗ Hold d cc ii bi fullShare (A (ρ c)) ∗ semVal (V d cc ii, .dma si) 0 ∗ Owed d cc ii O)
            -∗ Run d cc ii (k ⟨⟩) Q)
          -∗ Run d cc ii (Prog.lift (.waitDma2 si src' bi hsrc hdst) >>= k) Q) := by
  unfold Into Owed
  rw [dif_pos c.isLt, missing_one c]
  iintro ⟨⟨Hm, Hf⟩, ⟨%W, HO⟩, Hmw⟩ Hk
  iapply (run_await d cc ii rfl) $$ [Hf HO Hmw]
  · isplitl [Hf]; · iexact Hf
    isplitl [HO]; · iexact HO
    iexact Hmw
  iintro ⟨Hb, Hs, Hv, HO⟩
  iapply Hk
  isplitl [Hs Hm]
  · isplitl [Hs]
    · unfold Src; iexact Hs
    · iexact Hm
  isplitl [Hb]; · iexact Hb
  isplitl [Hv]; · iexact Hv
  iexact HO

/-- Starting the transfer of turn `c + 1`'s row, once turn `c`'s has been used. -/
theorem lane_fetch {Q : α → sProp 𝕄} {off : Fin 2 → ℕ} {inb : ∀ a, off a + S1x8192.size a ≤ S4096x8192.size a}
    {hr : ∀ a, (Rect.unit (s := S4096x8192) off S1x8192.size inb).stride a = 1}
    {hsrc : ((x.slice (Rect.unit (s := S4096x8192) off S1x8192.size inb) hr).squeeze S8192 squeezes_S1x8192_S8192).view.WordExact} {hdst : bi.view.WordExact}
    {hsem : DmaTarget.Typed (nD := nD) (p := Proc.scVector cc ii) .hbm (.dma si) (.here bi)}
    {k : PUnit → Prog (TpuEff nD τ sig (Elt F) Λ₀ (.scVector cc ii)) α} (c : ℕ) (hc : c < 64) (ho : off = ![(ρ ⟨c, hc⟩).val, 0]) {Z : S8192.Idx → F .f32} :
    iprop(bigSep Finset.univ (Src d cc ii x ρ A) ∗ Hold d cc ii bi fullShare Z ∗ semVal (V d cc ii, .dma si) 0)
      ⊢ iprop((iprop(missing (c + 1) (Src d cc ii x ρ A) ∗ Into d cc ii bi si x ρ A c) -∗ Run d cc ii (k ⟨⟩) Q)
          -∗ Run d cc ii (Prog.lift (.enqueueDma ((x.slice (Rect.unit (s := S4096x8192) off S1x8192.size inb) hr).squeeze S8192 squeezes_S1x8192_S8192)
              (.here bi) (.dma si) hsrc hdst hsem) >>= k) Q) := by
  subst ho
  unfold Into
  rw [dif_pos hc, missing_one ⟨c, hc⟩]
  iintro ⟨⟨Hs, Hm⟩, Hb, Hv⟩ Hk
  unfold Src
  iapply (run_start d cc ii (by decide)) $$ [Hs Hb Hv]
  · isplitl [Hs]; · iexact Hs
    isplitl [Hb]; · iexact Hb
    iexact Hv
  iintro Hf
  iapply Hk
  isplitl [Hm]; · iexact Hm
  iexact Hf

/-- After the last turn no row is on its way in. -/
theorem lane_last {c : ℕ} (hc : ¬ c < 64) {Z : S8192.Idx → F .f32} :
    iprop(bigSep Finset.univ (Src d cc ii x ρ A) ∗ Hold d cc ii bi fullShare Z ∗ semVal (V d cc ii, .dma si) 0)
      ⊢ iprop(missing (c + 1) (Src d cc ii x ρ A) ∗ Into d cc ii bi si x ρ A c) := by
  unfold Into Idle
  rw [dif_neg hc, missing_none (fun k => by have := k.isLt; omega)]
  iintro ⟨Hs, Hb, Hv⟩
  isplitl [Hs]; · iexact Hs
  isplitl [Hb]
  · iexists Z; iexact Hb
  · iexact Hv

/-- Waiting for the result of the turn before. -/
theorem lane_leave {Q : α → sProp 𝕄} {src' : Memref sig .scVector .vmem S8192 .f32} {dst' : Memref sig .scVector .hbm S8192 .f32} {hsrc : src'.view.WordExact} {hdst : dst'.view.WordExact}
    {k : PUnit → Prog (TpuEff nD τ sig (Elt F) Λ₀ (.scVector cc ii)) α} {c : ℕ} (hc : 0 < c ∧ c - 1 < 64)
    (hcredit : ∀ r, dst'.view.dmaCredit = (theRow o r).view.dmaCredit) :
    iprop((missing c (Dst d cc ii o ρ A B c) ∗ OutOf d cc ii bo so o ρ A c) ∗ Owed d cc ii O ∗ Transfers.MayWaits (V d cc ii) (default : HIx 1) O)
      ⊢ iprop((iprop(bigSep Finset.univ (Dst d cc ii o ρ A B c) ∗ Idle (F := F) d cc ii bo so ∗ Owed d cc ii O) -∗ Run d cc ii (k ⟨⟩) Q)
          -∗ Run d cc ii (Prog.lift (.waitDma2 so src' dst' hsrc hdst) >>= k) Q) := by
  unfold OutOf Owed
  rw [dif_pos hc, missing_one ⟨c - 1, hc.2⟩, show c - 1 + 1 = c by omega]
  iintro ⟨⟨Hm, Hf⟩, ⟨%W, HO⟩, Hmw⟩ Hk
  iapply (run_await d cc ii (hcredit _)) $$ [Hf HO Hmw]
  · isplitl [Hf]; · iexact Hf
    isplitl [HO]; · iexact HO
    iexact Hmw
  iintro ⟨Hd, Hb, Hv, HO⟩
  iapply Hk
  isplitl [Hd Hm]
  · isplitl [Hd]
    · unfold Dst
      rw [if_pos (show c - 1 < c by omega)]
      iexact Hd
    · iexact Hm
  isplitl [Hb Hv]
  · unfold Idle
    isplitl [Hb]
    · iexists _; iexact Hb
    · iexact Hv
  · iexact HO

/-- Before the first turn no result is on its way out. -/
theorem lane_first :
    iprop(missing 0 (Dst d cc ii o ρ A B 0) ∗ OutOf d cc ii bo so o ρ A 0)
      = iprop(bigSep Finset.univ (Dst d cc ii o ρ A B 0) ∗ Idle (F := F) d cc ii bo so) := by
  unfold OutOf
  rw [dif_neg (by omega), missing_none (fun k => by omega)]

/-- Starting the transfer of turn `c`'s result. -/
theorem lane_put {Q : α → sProp 𝕄} {off : Fin 2 → ℕ} {inb : ∀ a, off a + S1x8192.size a ≤ S4096x8192.size a}
    {hr : ∀ a, (Rect.unit (s := S4096x8192) off S1x8192.size inb).stride a = 1}
    {hdst : ((o.slice (Rect.unit (s := S4096x8192) off S1x8192.size inb) hr).squeeze S8192 squeezes_S1x8192_S8192).view.WordExact} {hsrc : bo.view.WordExact}
    {hsem : DmaTarget.Typed (nD := nD) (p := Proc.scVector cc ii) .vmem (.dma so)
      (.here ((o.slice (Rect.unit (s := S4096x8192) off S1x8192.size inb) hr).squeeze S8192 squeezes_S1x8192_S8192))}
    {k : PUnit → Prog (TpuEff nD τ sig (Elt F) Λ₀ (.scVector cc ii)) α} (c : Fin 64) (ho : off = ![(ρ c).val, 0]) :
    iprop(bigSep Finset.univ (Dst d cc ii o ρ A B c.val) ∗ Hold d cc ii bo fullShare (row (A (ρ c))) ∗ semVal (V d cc ii, .dma so) 0)
      ⊢ iprop((iprop(missing (c.val + 1) (Dst d cc ii o ρ A B (c.val + 1)) ∗ OutOf d cc ii bo so o ρ A (c.val + 1)) -∗ Run d cc ii (k ⟨⟩) Q)
          -∗ Run d cc ii (Prog.lift (.enqueueDma bo (.here ((o.slice (Rect.unit (s := S4096x8192) off S1x8192.size inb) hr).squeeze S8192 squeezes_S1x8192_S8192))
              (.dma so) hsrc hdst hsem) >>= k) Q) := by
  subst ho
  unfold OutOf
  have hlt : c.val + 1 - 1 < 64 := by have := c.isLt; omega
  rw [dif_pos ⟨by omega, hlt⟩, missing_one c]
  have hfam : missing (c.val + 1) (Dst d cc ii o ρ A B c.val) = missing (c.val + 1) (Dst d cc ii o ρ A B (c.val + 1)) :=
    missing_congr fun k hk => by
      unfold Dst
      by_cases h : k.val < c.val
      · rw [if_pos h, if_pos (by omega)]
      · rw [if_neg h, if_neg (by omega)]
  rw [hfam]
  iintro ⟨⟨Hd, Hm⟩, Hb, Hv⟩ Hk
  ihave Hd := (Entails.of_eq (show Dst d cc ii o ρ A B c.val c = Hold d cc ii (theRow o (ρ c)) fullShare (B (ρ c)) from by
    unfold Dst; rw [if_neg (by omega)])) $$ Hd
  iapply (run_start d cc ii (by decide)) $$ [Hd Hb Hv]
  · isplitl [Hb]; · iexact Hb
    isplitl [Hd]; · iexact Hd
    iexact Hv
  iintro Hf
  iapply Hk
  isplitl [Hm]; · iexact Hm
  iexact Hf

end Lane

end Cert.Rows

end
-- ==== Proof.Turn.lean ====
/-
  One turn of a tile, run: two rows, one on each lane.
-/
module

public import proofs.«01_k».proof.Proof.Lane

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The conditions and the rows of a turn -/

theorem cond1_iff : ∀ t : Fin k0_t1_loop.trips, k0_cond1 t = 1#1 ↔ 0 < t.val := by decide +kernel
theorem cond2_iff : ∀ t : Fin k0_t1_loop.trips, k0_cond2 t = 1#1 ↔ t.val + 1 < 64 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val + 1 < 64 := by decide +kernel

theorem core_lt (i : grid0.Coords) : (i 0).val < 2 := (i 0).isLt
theorem tile_lt (i : grid0.Coords) : (i 1).val < 16 := (i 1).isLt

/-- The row lane `e` of tile `i` takes on turn `k`. -/
def rowNo (i : grid0.Coords) (e : Fin 2) (k : Fin 64) : Fin 4096 :=
  ⟨256 * (i 1).val + 128 * (i 0).val + 2 * k.val + e.val, by
    have := core_lt i; have := tile_lt i; have := k.isLt; have := e.isLt; omega⟩

/-- The row each transfer of a turn names. -/
theorem off3_eq (i : grid0.Coords) (t : Fin k0_t1_loop.trips) (e : Fin 2) : k0_off3 i t (BitVec.ofNat 32 e.val) = ![(rowNo i e t).val, 0] :=
  k0_off3_eq i t e

theorem off22_eq (i : grid0.Coords) (t : Fin k0_t1_loop.trips) (hc : t.val + 1 < 64) : k0_off22 i t = ![(rowNo i 0 ⟨t.val + 1, hc⟩).val, 0] := by
  rw [k0_off22_eq]; unfold rowNo; congr 1

theorem off41_eq (i : grid0.Coords) (t : Fin k0_t1_loop.trips) (hc : t.val + 1 < 64) : k0_off41 i t = ![(rowNo i 1 ⟨t.val + 1, hc⟩).val, 0] := by
  rw [k0_off41_eq]; unfold rowNo; congr 1

theorem off1_eq (i : grid0.Coords) (hc : 0 < 64) : k0_off1 i = ![(rowNo i 0 ⟨0, hc⟩).val, 0] := by
  rw [k0_off1_eq]; unfold rowNo; congr 1

theorem off2_eq (i : grid0.Coords) (hc : 0 < 64) : k0_off2 i = ![(rowNo i 1 ⟨0, hc⟩).val, 0] := by
  rw [k0_off2_eq]; unfold rowNo; congr 1

/-- A lane before turn `c`. -/
def Lane (d : Dev nD) (cc : Fin τ.nSC) (ii : Fin τ.nSub) (bi bo : Memref sig .scVector .vmem S8192 .f32) (si so : DmaSem sig)
    (x o : Memref sig .scVector .hbm S4096x8192 .f32) (ρ : Fin 64 → Fin 4096) (A B : Fin 4096 → S8192.Idx → F .f32) (c : ℕ) : sProp 𝕄 :=
  iprop((missing (c + 1) (Src d cc ii x ρ A) ∗ Into d cc ii bi si x ρ A c)
    ∗ (missing c (Dst d cc ii o ρ A B c) ∗ OutOf d cc ii bo so o ρ A c))

section Optional

variable (d : Dev nD) (cc : Fin τ.nSC) (ii : Fin τ.nSub)
  (bi bo : Memref sig .scVector .vmem S8192 .f32) (si so : DmaSem sig) (x o : Memref sig .scVector .hbm S4096x8192 .f32)
  (ρ : Fin 64 → Fin 4096) (A B : Fin 4096 → S8192.Idx → F .f32) {α : Type} {O : CellTallies nD τ sig (HIx 1)}

/-- The wait for the result of the turn before, taken on every turn but the first. -/
theorem lane_leave_unless_first {Q : α → sProp 𝕄} {rest : Prog (TpuEff nD τ sig (Elt F) Λ₀ (.scVector cc ii)) α} {p : Prop} [Decidable p] {src' : p → Memref sig .scVector .vmem S8192 .f32}
    {dst' : p → Memref sig .scVector .hbm S8192 .f32} {hsrc : ∀ h, (src' h).view.WordExact} {hdst : ∀ h, (dst' h).view.WordExact}
    (c : Fin 64) (hp : p ↔ 0 < c.val) (hcredit : ∀ h r, (dst' h).view.dmaCredit = (theRow o r).view.dmaCredit) :
    iprop((missing c.val (Dst d cc ii o ρ A B c.val) ∗ OutOf d cc ii bo so o ρ A c.val) ∗ Owed d cc ii O ∗ Transfers.MayWaits (V d cc ii) (default : HIx 1) O)
      ⊢ iprop((iprop(bigSep Finset.univ (Dst d cc ii o ρ A B c.val) ∗ Idle (F := F) d cc ii bo so ∗ Owed d cc ii O) -∗ Run d cc ii rest Q)
          -∗ Run d cc ii (if h : p then (Prog.lift (.waitDma2 so (src' h) (dst' h) (hsrc h) (hdst h)) >>= fun _ => rest) else rest) Q) := by
  by_cases h : p
  · rw [dif_pos h]
    iintro H Hk
    iapply (lane_leave d cc ii bo so o ρ A B ⟨hp.mp h, by have := c.isLt; omega⟩ (hcredit h)) $$ H
    iintro H
    iapply Hk
    iexact H
  · rw [dif_neg h]
    have h0 : c.val = 0 := by
      by_contra hne
      exact h (hp.mpr (by omega))
    rw [h0, lane_first]
    iintro ⟨⟨Hd, Hi⟩, HO, -⟩ Hk
    iapply Hk
    isplitl [Hd]; · iexact Hd
    isplitl [Hi]; · iexact Hi
    iexact HO

/-- After the last turn no row is on its way in. -/
theorem lane_over :
    iprop(missing (64 + 1) (Src d cc ii x ρ A) ∗ Into d cc ii bi si x ρ A 64) = iprop(bigSep Finset.univ (Src d cc ii x ρ A) ∗ Idle (F := F) d cc ii bi si) := by
  unfold Into
  rw [dif_neg (by decide), missing_none (fun k => by have := k.isLt; omega)]

/-- The start of the next turn's transfer in, taken on every turn but the last. -/
theorem lane_fetch_unless_last {Q : α → sProp 𝕄} {rest : Prog (TpuEff nD τ sig (Elt F) Λ₀ (.scVector cc ii)) α} {p : Prop} [Decidable p] {off : Fin 2 → ℕ} {inb : p → ∀ a, off a + S1x8192.size a ≤ S4096x8192.size a}
    {hr : ∀ h, ∀ a, (Rect.unit (s := S4096x8192) off S1x8192.size (inb h)).stride a = 1}
    {hsrc : ∀ h, ((x.slice (Rect.unit (s := S4096x8192) off S1x8192.size (inb h)) (hr h)).squeeze S8192 squeezes_S1x8192_S8192).view.WordExact} {hdst : bi.view.WordExact}
    {hsem : DmaTarget.Typed (nD := nD) (p := Proc.scVector cc ii) .hbm (.dma si) (.here bi)}
    (c : ℕ) (hp : p ↔ c < 64) (ho : ∀ hc : c < 64, off = ![(ρ ⟨c, hc⟩).val, 0]) {Z : S8192.Idx → F .f32} :
    iprop(bigSep Finset.univ (Src d cc ii x ρ A) ∗ Hold d cc ii bi fullShare Z ∗ semVal (V d cc ii, .dma si) 0)
      ⊢ iprop((iprop(missing (c + 1) (Src d cc ii x ρ A) ∗ Into d cc ii bi si x ρ A c) -∗ Run d cc ii rest Q)
          -∗ Run d cc ii (if h : p then (Prog.lift (.enqueueDma ((x.slice (Rect.unit (s := S4096x8192) off S1x8192.size (inb h)) (hr h)).squeeze S8192 squeezes_S1x8192_S8192)
              (.here bi) (.dma si) (hsrc h) hdst hsem) >>= fun _ => rest) else rest) Q) := by
  by_cases h : p
  · rw [dif_pos h]
    iintro H Hk
    iapply (lane_fetch d cc ii bi si x ρ A c (hp.mp h) (ho (hp.mp h))) $$ H
    iintro H
    iapply Hk
    iexact H
  · rw [dif_neg h]
    iintro H Hk
    iapply Hk
    iapply (lane_last d cc ii bi si x ρ A (fun hc => h (hp.mpr hc))) $$ H

end Optional

section Turn

variable (d : Dev nD) (i : grid0.Coords) (a2 : Memref sig .scVector .hbm S4096x8192 .f32) (h2 : a2.IsWhole) (a3 : Memref sig .scVector .hbm S4096x8192 .f32) (h3 : a3.IsWhole)
  (a4 : Memref sig .scVector .vmem S8192 .f32) (h4 : a4.IsWhole) (a5 : Memref sig .scVector .vmem S8192 .f32) (h5 : a5.IsWhole)
  (a6 : Memref sig .scVector .vmem S8192 .f32) (h6 : a6.IsWhole) (a7 : Memref sig .scVector .vmem S8192 .f32) (h7 : a7.IsWhole)
  (s8 s9 s10 s11 : DmaSems sig S_) (v2 c0 c1 : BitVec 32) (t1 : Fin k0_t1_loop.trips)

/-- The thirty-two trips over a row: the row written is the result of the row read. -/
theorem run_row {α : Type} {Q : α → sProp 𝕄} {k : Unit → Prog (TpuEff nD τ sig (Elt F) Λ₀ (.scVector (coreOf i) (tileOf i))) α} {X Y : S8192.Idx → F .f32} :
    iprop(Hold d (coreOf i) (tileOf i) a4 fullShare X ∗ Hold d (coreOf i) (tileOf i) a6 fullShare Y)
      ⊢ iprop((iprop(Hold d (coreOf i) (tileOf i) a4 fullShare X ∗ Hold d (coreOf i) (tileOf i) a6 fullShare (row X)) -∗ Run d (coreOf i) (tileOf i) (k ⟨⟩) Q)
          -∗ Run d (coreOf i) (tileOf i)
              (Scf.Loop.for k0_t2_loop k0_t2_ok ⟨⟩ (k0_t2_body (F := F) i a2 h2 a3 h3 a4 h4 a5 h5 a6 h6 a7 h7 s8 s9 s10 s11 v2 k0_pay1 c0 c1 t1) >>= k) Q) := by
  iintro H Hk
  iapply (Scf.wp_for_bind frame (wpE (defs₀ (F := F)) 𝒱₀ (V d (coreOf i) (tileOf i)) none) Set.univ _ _ _ k0_t2_ok ⟨⟩ _
    (fun n _ => iprop(Hold d (coreOf i) (tileOf i) a4 fullShare X ∗ Hold d (coreOf i) (tileOf i) a6 fullShare (upTo X Y n))) (by
      intro t acc
      iintro H
      iapply (run_trip d i a2 h2 a3 h3 a4 h4 a5 h5 a6 h6 a7 h7 s8 s9 s10 s11 v2 c0 c1 t1 t) $$ H
      iintro H
      iexact H)) $$ [H]
  · rw [upTo_zero]; iexact H
  iintro %acc H
  iapply Hk
  rw [show Scf.trips k0_t2_loop.lb k0_t2_loop.ub k0_t2_loop.st = 32 from rfl, upTo_all]
  iexact H

/-- The other lane's trips are the same program with the buffers exchanged. -/
theorem swapped : k0_t3_body (F := F) i a2 h2 a3 h3 a4 h4 a5 h5 a6 h6 a7 h7 s8 s9 s10 s11
    = k0_t2_body i a2 h2 a3 h3 a5 h5 a4 h4 a7 h7 a6 h6 s8 s9 s10 s11 v2 k0_pay1 c0 c1 t1 := rfl

/-- The same of the other lane. -/
theorem run_row' {α : Type} {Q : α → sProp 𝕄} {k : Unit → Prog (TpuEff nD τ sig (Elt F) Λ₀ (.scVector (coreOf i) (tileOf i))) α} {X Y : S8192.Idx → F .f32} :
    iprop(Hold d (coreOf i) (tileOf i) a5 fullShare X ∗ Hold d (coreOf i) (tileOf i) a7 fullShare Y)
      ⊢ iprop((iprop(Hold d (coreOf i) (tileOf i) a5 fullShare X ∗ Hold d (coreOf i) (tileOf i) a7 fullShare (row X)) -∗ Run d (coreOf i) (tileOf i) (k ⟨⟩) Q)
          -∗ Run d (coreOf i) (tileOf i)
              (Scf.Loop.for k0_t3_loop k0_t3_ok ⟨⟩ (k0_t3_body (F := F) i a2 h2 a3 h3 a4 h4 a5 h5 a6 h6 a7 h7 s8 s9 s10 s11) >>= k) Q) := by
  rw [swapped i a2 h2 a3 h3 a4 h4 a5 h5 a6 h6 a7 h7 s8 s9 s10 s11 0 0 0 ⟨0, by decide⟩]
  exact run_row d i a2 h2 a3 h3 a5 h5 a4 h4 a7 h7 a6 h6 s8 s9 s10 s11 0 0 0 ⟨0, by decide⟩

/-- The first part of a turn: lane 0's whole turn and lane 1's two waits. -/
theorem run_part9 (A B : Fin 4096 → S8192.Idx → F .f32) {O : CellTallies nD τ sig (HIx 1)} (t : Fin k0_t1_loop.trips) {Q : _ → sProp 𝕄} :
    iprop(Lane d (coreOf i) (tileOf i) a4 a6 s8.sem s10.sem a2 a3 (rowNo i 0) A B t.val
        ∗ Lane d (coreOf i) (tileOf i) a5 a7 s9.sem s11.sem a2 a3 (rowNo i 1) A B t.val
        ∗ Owed d (coreOf i) (tileOf i) O ∗ Transfers.MayWaits (V d (coreOf i) (tileOf i)) (default : HIx 1) O)
      ⊢ iprop((∀ v, iprop(Lane d (coreOf i) (tileOf i) a4 a6 s8.sem s10.sem a2 a3 (rowNo i 0) A B (t.val + 1)
            ∗ iprop(bigSep Finset.univ (Src d (coreOf i) (tileOf i) a2 (rowNo i 1) A) ∗ Hold d (coreOf i) (tileOf i) a5 fullShare (A (rowNo i 1 t))
                ∗ semVal (V d (coreOf i) (tileOf i), .dma s9.sem) 0)
            ∗ iprop(bigSep Finset.univ (Dst d (coreOf i) (tileOf i) a3 (rowNo i 1) A B t.val) ∗ iprop((∃ Z : S8192.Idx → F .f32, Hold d (coreOf i) (tileOf i) a7 fullShare Z) ∗ semVal (V d (coreOf i) (tileOf i), .dma s11.sem) 0))
            ∗ Owed d (coreOf i) (tileOf i) O) -∗ Q v)
          -∗ Run d (coreOf i) (tileOf i) (k0_part9 (F := F) i a2 h2 a3 h3 a4 h4 a5 h5 a6 h6 a7 h7 s8 s9 s10 s11 v2 k0_pay1 c0 c1 t) Q) := by
  rw [k0_part9_eq_skeleton]
  dsimp only [k0_part9_skel]
  iintro ⟨L0, L1, HO, #Hmw⟩ Hk
  unfold Lane
  icases L0 with ⟨L0i, L0o⟩
  icases L1 with ⟨L1i, L1o⟩
  iapply (lane_await d _ _ a4 s8.sem a2 (rowNo i 0) A t) $$ [L0i HO]
  · isplitl [L0i]; · iexact L0i
    isplitl [HO]; · iexact HO
    iexact Hmw
  iintro ⟨S0, H4, V8, HO⟩
  iapply (lane_leave_unless_first d _ _ a6 s10.sem a3 (rowNo i 0) A B t (cond1_iff t) (fun _ _ => rfl)) $$ [L0o HO]
  · isplitl [L0o]; · iexact L0o
    isplitl [HO]; · iexact HO
    iexact Hmw
  iintro ⟨D0, I6, HO⟩
  unfold Idle
  icases I6 with ⟨⟨%Y6, H6⟩, V10⟩
  iapply (run_row d i a2 h2 a3 h3 a4 h4 a5 h5 a6 h6 a7 h7 s8 s9 s10 s11 v2 c0 c1 t) $$ [H4 H6]
  · isplitl [H4]; · iexact H4
    iexact H6
  iintro ⟨H4, H6⟩
  iapply (lane_put d _ _ a6 s10.sem a3 (rowNo i 0) A B t (off3_eq i t 0)) $$ [D0 H6 V10]
  · isplitl [D0]; · iexact D0
    isplitl [H6]; · iexact H6
    iexact V10
  iintro L0o
  iapply (lane_fetch_unless_last d _ _ a4 s8.sem a2 (rowNo i 0) A (t.val + 1) (cond2_iff t) (off22_eq i t)) $$ [S0 H4 V8]
  · isplitl [S0]; · iexact S0
    isplitl [H4]; · iexact H4
    iexact V8
  iintro L0i
  iapply (lane_await d _ _ a5 s9.sem a2 (rowNo i 1) A t) $$ [L1i HO]
  · isplitl [L1i]; · iexact L1i
    isplitl [HO]; · iexact HO
    iexact Hmw
  iintro ⟨S1, H5, V9, HO⟩
  iapply (lane_leave_unless_first d _ _ a7 s11.sem a3 (rowNo i 1) A B t (cond3_iff t) (fun _ _ => rfl)) $$ [L1o HO]
  · isplitl [L1o]; · iexact L1o
    isplitl [HO]; · iexact HO
    iexact Hmw
  iintro ⟨D1, I7, HO⟩
  iapply (run_pure d _ _)
  ispecialize Hk $$ %_
  iapply Hk
  isplitl [L0i L0o]
  · isplitl [L0i]; · iexact L0i
    iexact L0o
  isplitl [S1 H5 V9]
  · isplitl [S1]; · iexact S1
    isplitl [H5]; · iexact H5
    iexact V9
  isplitl [D1 I7]
  · isplitl [D1]; · iexact D1
    unfold Idle
    iexact I7
  iexact HO

/-- One whole turn takes both lanes from before it to before the next. -/
theorem run_turn (A B : Fin 4096 → S8192.Idx → F .f32) {O : CellTallies nD τ sig (HIx 1)} (t : Fin k0_t1_loop.trips) :
    iprop(Lane d (coreOf i) (tileOf i) a4 a6 s8.sem s10.sem a2 a3 (rowNo i 0) A B t.val
        ∗ Lane d (coreOf i) (tileOf i) a5 a7 s9.sem s11.sem a2 a3 (rowNo i 1) A B t.val
        ∗ Owed d (coreOf i) (tileOf i) O ∗ Transfers.MayWaits (V d (coreOf i) (tileOf i)) (default : HIx 1) O)
      ⊢ Run d (coreOf i) (tileOf i) (k0_t1_body (F := F) i a2 h2 a3 h3 a4 h4 a5 h5 a6 h6 a7 h7 s8 s9 s10 s11 v2 t ⟨⟩) (fun _ =>
        iprop(Lane d (coreOf i) (tileOf i) a4 a6 s8.sem s10.sem a2 a3 (rowNo i 0) A B (t.val + 1)
        ∗ Lane d (coreOf i) (tileOf i) a5 a7 s9.sem s11.sem a2 a3 (rowNo i 1) A B (t.val + 1)
        ∗ Owed d (coreOf i) (tileOf i) O ∗ Transfers.MayWaits (V d (coreOf i) (tileOf i)) (default : HIx 1) O)) := by
  dsimp only [k0_t1_body]
  iintro ⟨L0, L1, HO, #Hmw⟩
  iapply (run_bind d _ _)
  iapply (run_part9 d i a2 h2 a3 h3 a4 h4 a5 h5 a6 h6 a7 h7 s8 s9 s10 s11 v2 0#32 1#32 A B t) $$ [L0 L1 HO]
  · isplitl [L0]; · iexact L0
    isplitl [L1]; · iexact L1
    isplitl [HO]; · iexact HO
    iexact Hmw
  iintro %v ⟨L0, ⟨S1, H5, V9⟩, ⟨D1, ⟨%Y7, H7⟩, V11⟩, HO⟩
  iapply (run_row' d i a2 h2 a3 h3 a4 h4 a5 h5 a6 h6 a7 h7 s8 s9 s10 s11) $$ [H5 H7]
  · isplitl [H5]; · iexact H5
    iexact H7
  iintro ⟨H5, H7⟩
  iapply (lane_put d _ _ a7 s11.sem a3 (rowNo i 1) A B t (off3_eq i t 1)) $$ [D1 H7 V11]
  · isplitl [D1]; · iexact D1
    isplitl [H7]; · iexact H7
    iexact V11
  iintro L1o
  iapply (lane_fetch_unless_last d _ _ a5 s9.sem a2 (rowNo i 1) A (t.val + 1) (cond4_iff t) (off41_eq i t)) $$ [S1 H5 V9]
  · isplitl [S1]; · iexact S1
    isplitl [H5]; · iexact H5
    iexact V9
  iintro L1i
  iapply (run_pure d _ _)
  isplitl [L0]; · iexact L0
  isplitl [L1i L1o]
  · unfold Lane
    isplitl [L1i]; · iexact L1i
    iexact L1o
  isplitl [HO]; · iexact HO
  iexact Hmw

end Turn

/-! ## A tile's whole run -/

/-- A lane with nothing on its way: its rows of the two arrays, the first `c` of the second written, and its two buffers with their semaphores. -/
def AtRest (d : Dev nD) (cc : Fin τ.nSC) (ii : Fin τ.nSub) (bi bo : Memref sig .scVector .vmem S8192 .f32) (si so : DmaSem sig)
    (x o : Memref sig .scVector .hbm S4096x8192 .f32) (ρ : Fin 64 → Fin 4096) (A B : Fin 4096 → S8192.Idx → F .f32) (c : ℕ) : sProp 𝕄 :=
  iprop((bigSep Finset.univ (Src d cc ii x ρ A) ∗ Idle (F := F) d cc ii bi si)
    ∗ (bigSep Finset.univ (Dst d cc ii o ρ A B c) ∗ Idle (F := F) d cc ii bo so))

section Tile

variable (d : Dev nD) (i : grid0.Coords) (a2 : Memref sig .scVector .hbm S4096x8192 .f32) (h2 : a2.IsWhole) (a3 : Memref sig .scVector .hbm S4096x8192 .f32) (h3 : a3.IsWhole)
  (a4 : Memref sig .scVector .vmem S8192 .f32) (h4 : a4.IsWhole) (a5 : Memref sig .scVector .vmem S8192 .f32) (h5 : a5.IsWhole)
  (a6 : Memref sig .scVector .vmem S8192 .f32) (h6 : a6.IsWhole) (a7 : Memref sig .scVector .vmem S8192 .f32) (h7 : a7.IsWhole)
  (s8 s9 s10 s11 : DmaSems sig S_)

/-- A tile's run: every row of its two lanes ends holding the result of the row it was given. -/
theorem run_tile (A B : Fin 4096 → S8192.Idx → F .f32) {O : CellTallies nD τ sig (HIx 1)} :
    iprop(AtRest d (coreOf i) (tileOf i) a4 a6 s8.sem s10.sem a2 a3 (rowNo i 0) A B 0
        ∗ AtRest d (coreOf i) (tileOf i) a5 a7 s9.sem s11.sem a2 a3 (rowNo i 1) A B 0
        ∗ Owed d (coreOf i) (tileOf i) O ∗ Transfers.MayWaits (V d (coreOf i) (tileOf i)) (default : HIx 1) O)
      ⊢ Run d (coreOf i) (tileOf i) (cc0_k (F := F) i a2 h2 a3 h3 a4 h4 a5 h5 a6 h6 a7 h7 s8 s9 s10 s11) (fun _ =>
        iprop(AtRest d (coreOf i) (tileOf i) a4 a6 s8.sem s10.sem a2 a3 (rowNo i 0) A B 64
        ∗ AtRest d (coreOf i) (tileOf i) a5 a7 s9.sem s11.sem a2 a3 (rowNo i 1) A B 64
        ∗ Owed d (coreOf i) (tileOf i) O)) := by
  rw [cc0_k_eq_skeleton]
  dsimp only [cc0_k_skel]
  unfold AtRest
  iintro ⟨⟨⟨S0, I4⟩, R0⟩, ⟨⟨S1, I5⟩, R1⟩, HO, #Hmw⟩
  ihave L0o := (Entails.of_eq (lane_first d _ _ a6 s10.sem a3 (rowNo i 0) A B).symm) $$ R0
  ihave L1o := (Entails.of_eq (lane_first d _ _ a7 s11.sem a3 (rowNo i 1) A B).symm) $$ R1
  unfold Idle
  icases I4 with ⟨⟨%X4, H4⟩, V8⟩
  icases I5 with ⟨⟨%X5, H5⟩, V9⟩
  iapply (lane_fetch d _ _ a4 s8.sem a2 (rowNo i 0) A 0 (by decide) (off1_eq i (by decide))) $$ [S0 H4 V8]
  · isplitl [S0]; · iexact S0
    isplitl [H4]; · iexact H4
    iexact V8
  iintro L0i
  iapply (lane_fetch d _ _ a5 s9.sem a2 (rowNo i 1) A 0 (by decide) (off2_eq i (by decide))) $$ [S1 H5 V9]
  · isplitl [S1]; · iexact S1
    isplitl [H5]; · iexact H5
    iexact V9
  iintro L1i
  iapply (Scf.wp_for_bind frame (wpE (defs₀ (F := F)) 𝒱₀ (V d (coreOf i) (tileOf i)) none) Set.univ _ _ _ k0_t1_ok ⟨⟩ _
    (fun n _ => iprop(Lane d (coreOf i) (tileOf i) a4 a6 s8.sem s10.sem a2 a3 (rowNo i 0) A B n
        ∗ Lane d (coreOf i) (tileOf i) a5 a7 s9.sem s11.sem a2 a3 (rowNo i 1) A B n
        ∗ Owed d (coreOf i) (tileOf i) O ∗ Transfers.MayWaits (V d (coreOf i) (tileOf i)) (default : HIx 1) O))
    (fun t _ => run_turn d i a2 h2 a3 h3 a4 h4 a5 h5 a6 h6 a7 h7 s8 s9 s10 s11 _ A B t)) $$ [L0i L1i L0o L1o HO]
  · unfold Lane
    isplitl [L0i L0o]
    · isplitl [L0i]; · iexact L0i
      iexact L0o
    isplitl [L1i L1o]
    · isplitl [L1i]; · iexact L1i
      iexact L1o
    isplitl [HO]; · iexact HO
    iexact Hmw
  iintro %acc H
  rw [show Scf.trips k0_t1_loop.lb k0_t1_loop.ub k0_t1_loop.st = 64 from rfl]
  unfold Lane
  icases H with ⟨⟨⟨L0i, L0o⟩, ⟨⟨L1i, L1o⟩, ⟨HO, -⟩⟩⟩⟩
  iapply (lane_leave d _ _ a6 s10.sem a3 (rowNo i 0) A B (c := 64) (by decide) (fun _ => rfl)) $$ [L0o HO]
  · isplitl [L0o]; · iexact L0o
    isplitl [HO]; · iexact HO
    iexact Hmw
  iintro ⟨D0, I6, HO⟩
  iapply (lane_leave d _ _ a7 s11.sem a3 (rowNo i 1) A B (c := 64) (by decide) (fun _ => rfl)) $$ [L1o HO]
  · isplitl [L1o]; · iexact L1o
    isplitl [HO]; · iexact HO
    iexact Hmw
  iintro ⟨D1, I7, HO⟩
  iapply (run_pure d _ _)
  ihave L0i := (Entails.of_eq (lane_over d _ _ a4 s8.sem a2 (rowNo i 0) A)) $$ L0i
  ihave L1i := (Entails.of_eq (lane_over d _ _ a5 s9.sem a2 (rowNo i 1) A)) $$ L1i
  unfold Idle
  isplitl [L0i D0 I6]
  · isplitl [L0i]; · iexact L0i
    isplitl [D0]; · iexact D0
    iexact I6
  isplitl [L1i D1 I7]
  · isplitl [L1i]; · iexact L1i
    isplitl [D1]; · iexact D1
    iexact I7
  iexact HO

end Tile

end Cert.Rows

end
-- ==== Proof.Share.lean ====
/-
  The arrays dealt out by rows.

  Each of the 4096 rows belongs to one SparseCore, one of its tiles, one lane and one turn. An array held whole is its rows
  held, lane by lane and tile by tile; and holding a row of an array is holding the memref the kernel names it by.
-/
module

public import proofs.«01_k».proof.Proof.Turn

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The elements of a row -/

/-- Place `p` of row `r`. -/
def spot (r : Fin 4096) (p : S8192.Idx) : S4096x8192.Idx := Fin.cons r p

/-- The row an element lies on. -/
def rowOf (y : S4096x8192.Idx) : Fin 4096 := y 0

/-- The place of an element on its row. -/
def placeOf (y : S4096x8192.Idx) : S8192.Idx := Fin.tail y

theorem rowOf_spot (r : Fin 4096) (p : S8192.Idx) : rowOf (spot r p) = r := rfl
theorem placeOf_spot (r : Fin 4096) (p : S8192.Idx) : placeOf (spot r p) = p := rfl
theorem spot_rowOf (y : S4096x8192.Idx) : spot (rowOf y) (placeOf y) = y := Fin.cons_self_tail y

/-- The elements of row `r`. -/
def rowSet (r : Fin 4096) : Finset S4096x8192.Idx := Finset.univ.filter fun y => rowOf y = r

/-- The first array and the second, as a tile names them. -/
abbrev xM : Memref sig .scVector .hbm S4096x8192 .f32 := Memref.whole main_v0_scv
abbrev oM : Memref sig .scVector .hbm S4096x8192 .f32 := Memref.whole main_v1_scv

/-- The rectangle of row `r`, its leading axis dropped, puts place `p` at place `p` of row `r`. -/
theorem rect_row (h : S8192.numel = S1x8192.numel) (r : Fin 4096) (p : S8192.Idx) :
    (Rect.unit (s := S4096x8192) ![r.val, 0] S1x8192.size (row_inb r)).emb (Shape.reshapeEquiv h p) = spot r p := by
  rw [show Shape.reshapeEquiv h p = Fin.cons ⟨0, Nat.one_pos⟩ p from Shape.reshapeEquiv_cons_one (d := ![8192]) h p]
  funext a
  apply Fin.ext
  match a with
  | 0 => show r.val + 1 * 0 = r.val; omega
  | 1 => show 0 + 1 * (p 0).val = (p 0).val; omega

theorem emb_x (r : Fin 4096) (p : S8192.Idx) : (theRow xM r).view.emb p = spot r p := rect_row _ r p
theorem emb_o (r : Fin 4096) (p : S8192.Idx) : (theRow oM r).view.emb p = spot r p := rect_row _ r p

theorem mem_row {r : Fin 4096} {y : S4096x8192.Idx} : (∃ p, spot r p = y) ↔ y ∈ rowSet r := by
  unfold rowSet
  rw [Finset.mem_filter]
  constructor
  · rintro ⟨p, rfl⟩
    exact ⟨Finset.mem_univ _, rfl⟩
  · rintro ⟨-, rfl⟩
    exact ⟨placeOf y, spot_rowOf y⟩

theorem set_x (r : Fin 4096) : (theRow xM r).view.set = rowSet r := by
  ext y
  rw [← mem_row]
  exact ⟨fun h => by
    obtain ⟨p, -, e⟩ := Finset.mem_map.mp h
    exact ⟨p, (emb_x r p).symm.trans e⟩, fun ⟨p, e⟩ => Finset.mem_map.mpr ⟨p, Finset.mem_univ _, (emb_x r p).trans e⟩⟩

theorem set_o (r : Fin 4096) : (theRow oM r).view.set = rowSet r := by
  ext y
  rw [← mem_row]
  exact ⟨fun h => by
    obtain ⟨p, -, e⟩ := Finset.mem_map.mp h
    exact ⟨p, (emb_o r p).symm.trans e⟩, fun ⟨p, e⟩ => Finset.mem_map.mpr ⟨p, Finset.mem_univ _, (emb_o r p).trans e⟩⟩

/-! ## Rows held, and the memrefs that name them -/

abbrev xLoc (d : Dev nD) : Loc nD τ sig := (SparseCore.T d).loc main_v0
abbrev oLoc (d : Dev nD) : Loc nD τ sig := (SparseCore.T d).loc main_v1

/-- An array of rows, row by row. -/
def rowsOf (X : S4096x8192.Idx → F .f32) (r : Fin 4096) : S8192.Idx → F .f32 := fun p => X (spot r p)

section Held

variable (d : Dev nD) (cc : Fin τ.nSC) (ii : Fin τ.nSub) (r : Fin 4096)

theorem hold_x (X : Buf (Elt F) (xLoc d)) :
    (Hold d cc ii (theRow xM r) fullShare (rowsOf X r) : sProp 𝕄) = (xLoc d ↦[rowSet r]{fullShare} X) := by
  have hr : ∀ f : Buf (Elt F) (xLoc d), (theRow xM r).view.read (Elt F) f = rowsOf f r := fun f => by
    funext p
    show f ((theRow xM r).view.emb p) = f (spot r p)
    rw [emb_x]
  refine BI.equiv_iff.mp ⟨?_, ?_⟩
  · show Hold d cc ii _ _ _ ⊢ _
    unfold Hold
    iintro ⟨%f, %hf, H⟩
    ihave H := (Entails.of_eq (show ((theRow xM r).view.loc (V d cc ii) ↦[(theRow xM r).view.set]{fullShare} f : sProp 𝕄)
      = (xLoc d ↦[rowSet r]{fullShare} X) from by
        rw [set_x]
        exact pointsTo_congr fun y hy => by
          obtain ⟨p, rfl⟩ := mem_row.mpr hy
          exact congrFun ((hr f).symm.trans hf) p)) $$ H
    iexact H
  · rw [← hr X, ← set_x r]
    exact hold_intro d cc ii (theRow xM r) fullShare X

theorem hold_o (X : Buf (Elt F) (oLoc d)) :
    (Hold d cc ii (theRow oM r) fullShare (rowsOf X r) : sProp 𝕄) = (oLoc d ↦[rowSet r]{fullShare} X) := by
  have hr : ∀ f : Buf (Elt F) (oLoc d), (theRow oM r).view.read (Elt F) f = rowsOf f r := fun f => by
    funext p
    show f ((theRow oM r).view.emb p) = f (spot r p)
    rw [emb_o]
  refine BI.equiv_iff.mp ⟨?_, ?_⟩
  · show Hold d cc ii _ _ _ ⊢ _
    unfold Hold
    iintro ⟨%f, %hf, H⟩
    ihave H := (Entails.of_eq (show ((theRow oM r).view.loc (V d cc ii) ↦[(theRow oM r).view.set]{fullShare} f : sProp 𝕄)
      = (oLoc d ↦[rowSet r]{fullShare} X) from by
        rw [set_o]
        exact pointsTo_congr fun y hy => by
          obtain ⟨p, rfl⟩ := mem_row.mpr hy
          exact congrFun ((hr f).symm.trans hf) p)) $$ H
    iexact H
  · rw [← hr X, ← set_o r]
    exact hold_intro d cc ii (theRow oM r) fullShare X

end Held

/-! ## Every row has one owner -/

/-- The kernel's grid point of SparseCore `c` and tile `s`. -/
def pointAt (c : Fin 2) (s : Fin 16) : grid0.Coords :=
  fun | 0 => c | 1 => s | ⟨_ + 2, h⟩ => absurd h (Nat.not_lt.2 (Nat.le_add_left _ _))

/-- The row of a SparseCore, a tile, a lane and a turn. -/
def owned (t : Fin 2 × Fin 16 × Fin 2 × Fin 64) : Fin 4096 := rowNo (pointAt t.1 t.2.1) t.2.2.1 t.2.2.2

theorem owned_val (t : Fin 2 × Fin 16 × Fin 2 × Fin 64) :
    (owned t).val = 256 * t.2.1.val + 128 * t.1.val + 2 * t.2.2.2.val + t.2.2.1.val := rfl

theorem owned_injective : Function.Injective owned := by
  rintro ⟨c, s, e, k⟩ ⟨c', s', e', k'⟩ heq
  have h : 256 * s.val + 128 * c.val + 2 * k.val + e.val = 256 * s'.val + 128 * c'.val + 2 * k'.val + e'.val := congrArg Fin.val heq
  clear heq
  have := c.isLt; have := s.isLt; have := e.isLt; have := k.isLt
  have := c'.isLt; have := s'.isLt; have := e'.isLt; have := k'.isLt
  have h1 : s = s' := Fin.ext (by omega)
  have h2 : c = c' := Fin.ext (by omega)
  have h3 : k = k' := Fin.ext (by omega)
  have h4 : e = e' := Fin.ext (by omega)
  rw [h1, h2, h3, h4]

theorem owned_surjective (r : Fin 4096) : ∃ t, owned t = r := by
  have := r.isLt
  refine ⟨(⟨r.val / 128 % 2, by omega⟩, ⟨r.val / 256, by omega⟩, ⟨r.val % 2, by omega⟩, ⟨r.val % 128 / 2, by omega⟩), Fin.ext ?_⟩
  rw [owned_val]
  dsimp only
  omega

theorem owners_disjoint : ∀ t ∈ (Finset.univ : Finset (Fin 2 × Fin 16 × Fin 2 × Fin 64)), ∀ t' ∈ (Finset.univ : Finset (Fin 2 × Fin 16 × Fin 2 × Fin 64)),
    t ≠ t' → Disjoint (rowSet (owned t)) (rowSet (owned t')) := by
  intro t _ t' _ hne
  rw [Finset.disjoint_left]
  intro y h h'
  exact hne (owned_injective ((Finset.mem_filter.mp h).2.symm.trans (Finset.mem_filter.mp h').2))

theorem owners_cover : (Finset.univ : Finset (Fin 2 × Fin 16 × Fin 2 × Fin 64)).biUnion (fun t => rowSet (owned t)) = Finset.univ := by
  refine Finset.eq_univ_iff_forall.mpr fun y => ?_
  rw [Finset.mem_biUnion]
  have h := owned_surjective (rowOf y)
  exact h.imp fun t ht => ⟨Finset.mem_univ _, Finset.mem_filter.mpr ⟨Finset.mem_univ _, ht.symm⟩⟩

/-- The rows of an array that one lane of one tile works on. -/
def LaneRows (ℓ : Loc nD τ sig) (S : Fin 4096 → Finset (Idx ℓ)) (f : Buf (Elt F) ℓ) (c : Fin 2) (s : Fin 16) (e : Fin 2) : sProp 𝕄 :=
  bigSep Finset.univ fun k : Fin 64 => (ℓ ↦[S (rowNo (pointAt c s) e k)]{fullShare} f)

/-- The rows of an array that one tile works on. -/
def TileRows (ℓ : Loc nD τ sig) (S : Fin 4096 → Finset (Idx ℓ)) (f : Buf (Elt F) ℓ) (c : Fin 2) (s : Fin 16) : sProp 𝕄 :=
  iprop(LaneRows ℓ S f c s 0 ∗ LaneRows ℓ S f c s 1)

/-- An array whose element sets the owners share out, held whole, is every tile's rows held. -/
theorem array_rows (ℓ : Loc nD τ sig) (S : Fin 4096 → Finset (Idx ℓ)) (f : Buf (Elt F) ℓ)
    (hd : ∀ t ∈ (Finset.univ : Finset (Fin 2 × Fin 16 × Fin 2 × Fin 64)), ∀ t' ∈ (Finset.univ : Finset (Fin 2 × Fin 16 × Fin 2 × Fin 64)),
      t ≠ t' → Disjoint (S (owned t)) (S (owned t')))
    (hc : (Finset.univ : Finset (Fin 2 × Fin 16 × Fin 2 × Fin 64)).biUnion (fun t => S (owned t)) = Finset.univ) :
    (ℓ ↦{fullShare} f : sProp 𝕄) = bigSep Finset.univ fun c : Fin 2 => bigSep Finset.univ fun s : Fin 16 => TileRows ℓ S f c s := by
  rw [← hc, pointsTo_biUnion Finset.univ (fun t => S (owned t)) hd, bigSep_univ_prod]
  refine bigSep_congr fun c _ => ?_
  rw [bigSep_univ_prod]
  refine bigSep_congr fun s _ => ?_
  rw [bigSep_univ_prod, bigSep_univ_two]
  rfl

theorem x_rows (d : Dev nD) (f : Buf (Elt F) (xLoc d)) :
    (xLoc d ↦{fullShare} f : sProp 𝕄) = bigSep Finset.univ fun c : Fin 2 => bigSep Finset.univ fun s : Fin 16 => TileRows (xLoc d) rowSet f c s :=
  array_rows (xLoc d) rowSet f owners_disjoint owners_cover

theorem o_rows (d : Dev nD) (f : Buf (Elt F) (oLoc d)) :
    (oLoc d ↦{fullShare} f : sProp 𝕄) = bigSep Finset.univ fun c : Fin 2 => bigSep Finset.univ fun s : Fin 16 => TileRows (oLoc d) rowSet f c s :=
  array_rows (oLoc d) rowSet f owners_disjoint owners_cover

end Cert.Rows

end
-- ==== Proof.Tile.lean ====
/-
  What the launch hands one tile, and the tile's run from it.
-/
module

public import proofs.«01_k».proof.Proof.Share

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Four members of a family, taken out one after the other. -/
theorem take_four {I : Type} [DecidableEq I] {S : Finset I} (Φ : I → sProp 𝕄) {p q r t : I} (hp : p ∈ S) (hq : q ∈ S) (hr : r ∈ S) (ht : t ∈ S)
    (hn : q ≠ p ∧ r ≠ p ∧ r ≠ q ∧ t ≠ p ∧ t ≠ q ∧ t ≠ r) :
    bigSep S Φ = iprop(Φ p ∗ Φ q ∗ Φ r ∗ Φ t ∗ bigSep ((((S.erase p).erase q).erase r).erase t) Φ) := by
  obtain ⟨qp, rp, rq, tp, tq, tr⟩ := hn
  rw [SparseCore.bigSep_erase' hp, SparseCore.bigSep_erase' (Finset.mem_erase.mpr ⟨qp, hq⟩),
    SparseCore.bigSep_erase' (Finset.mem_erase.mpr ⟨rq, Finset.mem_erase.mpr ⟨rp, hr⟩⟩),
    SparseCore.bigSep_erase' (Finset.mem_erase.mpr ⟨tr, Finset.mem_erase.mpr ⟨tq, Finset.mem_erase.mpr ⟨tp, ht⟩⟩⟩)]

theorem sems_differ : (SemLoc.dma cc0_scratch5.sem : SemLoc sig) ≠ (SemLoc.dma cc0_scratch4.sem : SemLoc sig) ∧ (SemLoc.dma cc0_scratch6.sem : SemLoc sig) ≠ (SemLoc.dma cc0_scratch4.sem : SemLoc sig) ∧ (SemLoc.dma cc0_scratch6.sem : SemLoc sig) ≠ (SemLoc.dma cc0_scratch5.sem : SemLoc sig) ∧ (SemLoc.dma cc0_scratch7.sem : SemLoc sig) ≠ (SemLoc.dma cc0_scratch4.sem : SemLoc sig) ∧ (SemLoc.dma cc0_scratch7.sem : SemLoc sig) ≠ (SemLoc.dma cc0_scratch5.sem : SemLoc sig) ∧ (SemLoc.dma cc0_scratch7.sem : SemLoc sig) ≠ (SemLoc.dma cc0_scratch6.sem : SemLoc sig) := by decide

theorem bufs_differ : (cc0_scratch1 : Ref sig .scVector) ≠ (cc0_scratch0 : Ref sig .scVector) ∧ (cc0_scratch2 : Ref sig .scVector) ≠ (cc0_scratch0 : Ref sig .scVector) ∧ (cc0_scratch2 : Ref sig .scVector) ≠ (cc0_scratch1 : Ref sig .scVector) ∧ (cc0_scratch3 : Ref sig .scVector) ≠ (cc0_scratch0 : Ref sig .scVector) ∧ (cc0_scratch3 : Ref sig .scVector) ≠ (cc0_scratch1 : Ref sig .scVector) ∧ (cc0_scratch3 : Ref sig .scVector) ≠ (cc0_scratch2 : Ref sig .scVector) := by decide

section Own

variable (d : Dev nD) (cc : Fin τ.nSC) (ii : Fin τ.nSub)

/-- A tile's own semaphores: its four, and the rest. -/
theorem sems_of_tile : ∃ R : sProp 𝕄, (ownSems0 (V d cc ii) : sProp 𝕄)
    = iprop(semVal (V d cc ii, .dma cc0_scratch4.sem) 0 ∗ semVal (V d cc ii, .dma cc0_scratch5.sem) 0
        ∗ semVal (V d cc ii, .dma cc0_scratch6.sem) 0 ∗ semVal (V d cc ii, .dma cc0_scratch7.sem) 0 ∗ R) :=
  ⟨_, take_four _ (mem_ownCells.mpr ⟨rfl, show (SemLoc.dma cc0_scratch4.sem : SemLoc sig).isScoped .scVector = true by decide⟩)
    (mem_ownCells.mpr ⟨rfl, show (SemLoc.dma cc0_scratch5.sem : SemLoc sig).isScoped .scVector = true by decide⟩)
    (mem_ownCells.mpr ⟨rfl, show (SemLoc.dma cc0_scratch6.sem : SemLoc sig).isScoped .scVector = true by decide⟩)
    (mem_ownCells.mpr ⟨rfl, show (SemLoc.dma cc0_scratch7.sem : SemLoc sig).isScoped .scVector = true by decide⟩)
    ⟨fun e => sems_differ.1 (congrArg Prod.snd e), fun e => sems_differ.2.1 (congrArg Prod.snd e), fun e => sems_differ.2.2.1 (congrArg Prod.snd e),
      fun e => sems_differ.2.2.2.1 (congrArg Prod.snd e), fun e => sems_differ.2.2.2.2.1 (congrArg Prod.snd e), fun e => sems_differ.2.2.2.2.2 (congrArg Prod.snd e)⟩⟩

/-- One of a tile's buffers held whole at some contents. -/
def Held (b : Ref sig .scVector) : sProp 𝕄 := iprop(∃ f, (V d cc ii).loc b ↦{fullShare} f)

/-- A tile's own buffers: its four, and the rest. -/
theorem bufs_of_tile : ∃ R : sProp 𝕄, (ownBufs (V d cc ii) : sProp 𝕄)
    = iprop(Held d cc ii cc0_scratch0 ∗ Held d cc ii cc0_scratch1 ∗ Held d cc ii cc0_scratch2 ∗ Held d cc ii cc0_scratch3 ∗ R) :=
  ⟨_, take_four (fun b => iprop(∃ f, ((d, b) : Loc nD τ sig) ↦{fullShare} f))
    (SparseCore.Cfg.mem_ownRefs_of_owner (p := Proc.scVector cc ii) (b := (Proc.scVector cc ii).devRef cc0_scratch0) rfl)
    (SparseCore.Cfg.mem_ownRefs_of_owner (p := Proc.scVector cc ii) (b := (Proc.scVector cc ii).devRef cc0_scratch1) rfl)
    (SparseCore.Cfg.mem_ownRefs_of_owner (p := Proc.scVector cc ii) (b := (Proc.scVector cc ii).devRef cc0_scratch2) rfl)
    (SparseCore.Cfg.mem_ownRefs_of_owner (p := Proc.scVector cc ii) (b := (Proc.scVector cc ii).devRef cc0_scratch3) rfl)
    ⟨fun e => bufs_differ.1 (Proc.devRef_injective _ e), fun e => bufs_differ.2.1 (Proc.devRef_injective _ e), fun e => bufs_differ.2.2.1 (Proc.devRef_injective _ e),
      fun e => bufs_differ.2.2.2.1 (Proc.devRef_injective _ e), fun e => bufs_differ.2.2.2.2.1 (Proc.devRef_injective _ e), fun e => bufs_differ.2.2.2.2.2 (Proc.devRef_injective _ e)⟩⟩

/-- A buffer held whole reads something, and the other way round. -/
theorem held_hold (b : Ref sig .scVector) : Held (F := F) d cc ii b = iprop(∃ Z, Hold (F := F) d cc ii (Memref.whole b) fullShare Z) := by
  have hs : (Memref.whole b).view.set = Finset.univ := View.set_whole b
  refine BI.equiv_iff.mp ⟨?_, ?_⟩
  · show Held d cc ii b ⊢ _
    unfold Held
    iintro ⟨%f, H⟩
    iexists ((Memref.whole b).view.read (Elt F) f)
    iapply (hold_intro d cc ii (Memref.whole b) fullShare f)
    rw [hs]
    iexact H
  · show iprop(∃ Z, Hold (F := F) d cc ii (Memref.whole b) fullShare Z) ⊢ Held d cc ii b
    unfold Held Hold
    iintro ⟨%Z, %f, -, H⟩
    iexists f
    rw [hs]
    iexact H

end Own

/-! ## The rows a lane is handed and hands back -/

section Lane

variable (d : Dev nD) (c : Fin 2) (s : Fin 16) (e : Fin 2)

/-- The array of results of an array's rows. -/
def results (X : S4096x8192.Idx → F .f32) : S4096x8192.Idx → F .f32 := fun y => row (rowsOf X (rowOf y)) (placeOf y)

theorem rowsOf_results (X : S4096x8192.Idx → F .f32) (r : Fin 4096) : rowsOf (results X) r = row (rowsOf X r) := rfl

abbrev cV (c : Fin 2) (s : Fin 16) : Fin τ.nSC := coreOf (pointAt c s)
abbrev iV (c : Fin 2) (s : Fin 16) : Fin τ.nSub := tileOf (pointAt c s)

theorem src_rows (X : Buf (Elt F) (xLoc d)) :
    bigSep Finset.univ (Src d (cV c s) (iV c s) xM (rowNo (pointAt c s) e) (rowsOf X)) = (LaneRows (xLoc d) rowSet X c s e : sProp 𝕄) :=
  bigSep_congr fun k _ => hold_x d _ _ _ X

theorem dst_rows_before (X : Buf (Elt F) (xLoc d)) (Y : Buf (Elt F) (oLoc d)) :
    bigSep Finset.univ (Dst d (cV c s) (iV c s) oM (rowNo (pointAt c s) e) (rowsOf X) (rowsOf Y) 0) = (LaneRows (oLoc d) rowSet Y c s e : sProp 𝕄) :=
  bigSep_congr fun k _ => by
    unfold Dst
    rw [if_neg (Nat.not_lt_zero _)]
    exact hold_o d _ _ _ Y

theorem dst_rows_after (X : Buf (Elt F) (xLoc d)) (Y : Buf (Elt F) (oLoc d)) :
    bigSep Finset.univ (Dst d (cV c s) (iV c s) oM (rowNo (pointAt c s) e) (rowsOf X) (rowsOf Y) 64) = (LaneRows (oLoc d) rowSet (results X) c s e : sProp 𝕄) :=
  bigSep_congr fun k _ => by
    unfold Dst
    rw [if_pos k.isLt, ← rowsOf_results]
    exact hold_o d _ _ _ (results X)

end Lane

/-! ## The tile's run -/

section Body

variable (d : Dev nD) (c : Fin 2) (s : Fin 16)

/-- From its rows of the two arrays, its buffers and its semaphores, a tile leaves its rows of the second array holding the results, and everything
    else as it was. -/
theorem tile_body (hF : (K (F := F)).Facts) (X : Buf (Elt F) (xLoc d)) (Y : Buf (Elt F) (oLoc d)) (O : CellTallies nD τ sig (HIx 1)) (W : Waits sig (HIx 1))
    (hO : ∀ g, O g none = 0) :
    iprop(levAts (K (F := F)).L (K (F := F)).lev ∗ emp ∗ (TileRows (xLoc d) rowSet X c s ∗ TileRows (oLoc d) rowSet Y c s)
        ∗ scopedBufs (V d (cV c s) (iV c s)) ∗ scopedSems0 (V d (cV c s) (iV c s)) ∗ owes (V d (cV c s) (iV c s)) O W)
      ⊢ wp frame (wpE (defs₀ (F := F)) 𝒱₀ (V d (cV c s) (iV c s)) none) Set.univ
          (cc0_k (pointAt c s) xM (Memref.isWhole_whole _) oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop((TileRows (xLoc d) rowSet X c s ∗ TileRows (oLoc d) rowSet (results X) c s)
            ∗ scopedBufs (V d (cV c s) (iV c s)) ∗ scopedSems0 (V d (cV c s) (iV c s))
            ∗ ∃ W', ⌜∀ p ∈ W', p ∈ W ∨ p.2 = none ∨ p.2 = some (0 : Fin 1)⌝ ∗ owes (V d (cV c s) (iV c s)) O W') := by
  obtain ⟨RS, hRS⟩ := sems_of_tile (F := F) d (cV c s) (iV c s)
  obtain ⟨RB, hRB⟩ := bufs_of_tile (F := F) d (cV c s) (iV c s)
  rw [(K (F := F)).scopedBufs_V hF d (cV c s) (iV c s), SparseCore.Cfg.scopedSems0_V (Val := Elt F) d (cV c s) (iV c s), hRS, hRB]
  rw [held_hold, held_hold, held_hold, held_hold]
  unfold TileRows
  rw [← src_rows d c s 0 X, ← src_rows d c s 1 X, ← dst_rows_before d c s 0 X Y, ← dst_rows_before d c s 1 X Y,
    ← dst_rows_after d c s 0 X Y, ← dst_rows_after d c s 1 X Y]
  iintro ⟨#Hlv, -, ⟨⟨X0, X1⟩, ⟨Y0, Y1⟩⟩, ⟨B0, B1, B2, B3, RB⟩, ⟨V0, V1, V2, V3, RS⟩, HO⟩
  ihave Hmw := (show levAts (K (F := F)).L (K (F := F)).lev ⊢ Transfers.MayWaits (V d (cV c s) (iV c s)) (default : HIx 1) O from
    (K (F := F)).mayWaits_none (thr := V d (cV c s) (iV c s)) hO) $$ Hlv
  ihave H := (run_tile d (pointAt c s) xM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 (rowsOf X) (rowsOf Y)) $$ [X0 X1 Y0 Y1 B0 B1 B2 B3 V0 V1 V2 V3 HO Hmw]
  · unfold AtRest Idle Owed
    isplitl [X0 B0 V0 Y0 B2 V2]
    · isplitl [X0 B0 V0]
      · isplitl [X0]; · iexact X0
        isplitl [B0]; · iexact B0
        iexact V0
      · isplitl [Y0]; · iexact Y0
        isplitl [B2]; · iexact B2
        iexact V2
    isplitl [X1 B1 V1 Y1 B3 V3]
    · isplitl [X1 B1 V1]
      · isplitl [X1]; · iexact X1
        isplitl [B1]; · iexact B1
        iexact V1
      · isplitl [Y1]; · iexact Y1
        isplitl [B3]; · iexact B3
        iexact V3
    isplitl [HO]
    · iexists W; iexact HO
    iexact Hmw
  iapply (wp_wand frame _ _) $$ H
  iintro %u H
  unfold AtRest Idle Owed
  icases H with ⟨⟨⟨X0, B0, V0⟩, ⟨Y0, B2, V2⟩⟩, ⟨⟨X1, B1, V1⟩, ⟨Y1, B3, V3⟩⟩, ⟨%W', HO⟩⟩
  isplitl [X0 X1 Y0 Y1]
  · isplitl [X0 X1]
    · isplitl [X0]; · iexact X0
      iexact X1
    · isplitl [Y0]; · iexact Y0
      iexact Y1
  isplitl [B0 B1 B2 B3 RB]
  · isplitl [B0]; · iexact B0
    isplitl [B1]; · iexact B1
    isplitl [B2]; · iexact B2
    isplitl [B3]; · iexact B3
    iexact RB
  isplitl [V0 V1 V2 V3 RS]
  · isplitl [V0]; · iexact V0
    isplitl [V1]; · iexact V1
    isplitl [V2]; · iexact V2
    isplitl [V3]; · iexact V3
    iexact RS
  iexists W'
  isplitr
  · ipureintro
    rintro ⟨-, o⟩ -
    match o with
    | none => exact Or.inr (Or.inl rfl)
    | some 0 => exact Or.inr (Or.inr rfl)
  · iexact HO

end Body

end Cert.Rows

end
-- ==== Proof.Launch.lean ====
/-
  The program's run: the argument reshaped to rows, the kernel over the rows, the rows reshaped back.
-/
module

public import proofs.«01_k».proof.Proof.Tile

@[expose] public section

noncomputable section

namespace Cert.Rows

open Cert.KernelIdeal Cert.KernelIdeal.Gen Cert.Pick
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

/-- The launch's handshakes live in the first half of the ghost algebra. -/
abbrev EH : Emb (URounds (GSem nD τ sig) ℕ) (MT nD τ sig (HIx 1) (Elt F) ℕ UU ℕ) := embL

variable (m : (ℓ : Loc nD τ sig) → Buf (Elt F) ℓ) (ρ : Dev nD → PrngReg)

/-! ## The arrays, step by step -/

abbrev aRef : DevRef τ sig := Proc.devRef .tc (main_arg0 : Ref sig .tc)
abbrev xRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The argument cut into rows, and the rows put together again. -/
abbrev toRows : HloOp τ sig (Elt F) := StableHlo.reshape main_arg0 main_v0 (rfl : (.f32 : EltTy) = .f32) shapeCasts_S4x1024x8192_S4096x8192
abbrev fromRows : HloOp τ sig (Elt F) := StableHlo.reshape main_v1 main_v2 (rfl : (.f32 : EltTy) = .f32) shapeCasts_S4096x8192_S4x1024x8192

/-- The argument's rows. -/
def inRows (d : Dev nD) : S4096x8192.Idx → F .f32 := shapeCast S4096x8192 (m (aLoc d) : S4x1024x8192.Idx → F .f32) shapeCasts_S4x1024x8192_S4096x8192

/-- The program's result: every row's, at the argument's shape. -/
def outcome (d : Dev nD) : S4x1024x8192.Idx → F .f32 := shapeCast S4x1024x8192 (results (inRows m d)) shapeCasts_S4096x8192_S4x1024x8192

abbrev arrays : Finset (DevRef τ sig) := {aRef, xRef, oRef, rRef}

theorem held_arrays (d : Dev nD) (W : Valuation τ sig (Elt F)) :
    (held (SparseCore.T d) arrays W : sProp 𝕄)
      = iprop((aLoc d ↦{fullShare} W aRef) ∗ (xLoc d ↦{fullShare} W xRef) ∗ (oLoc d ↦{fullShare} W oRef) ∗ rLoc d ↦{fullShare} W rRef) := by
  unfold held arrays
  rw [SparseCore.bigSep_insert' (by decide), SparseCore.bigSep_insert' (by decide), SparseCore.bigSep_insert' (by decide), bigSep_singleton]

theorem unscoped_arrays (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch, after the cut, after the call. -/
def val0 (d : Dev nD) : Valuation τ sig (Elt F) := fun b => m (d, b)
def val1 (d : Dev nD) : Valuation τ sig (Elt F) := (toRows (F := F)).result (val0 m d)
def val2 (d : Dev nD) : Valuation τ sig (Elt F) := Function.update (val1 m d) oRef (results (inRows m d))
def val3 (d : Dev nD) : Valuation τ sig (Elt F) := (fromRows (F := F)).result (val2 m d)

theorem unscoped_held (d : Dev nD) : (unscopedBufs d (fun b => m ((SparseCore.T d).loc b)) : sProp 𝕄) = held (SparseCore.T d) arrays (val0 m d) := by
  rw [unscoped_arrays, held_arrays]; rfl

theorem val1_a (d : Dev nD) : val1 m d aRef = m (aLoc d) :=
  (toRows (F := F)).result_of_not_mem _ (show aRef ∉ ({xRef} : Finset (DevRef τ sig)) by decide)
theorem val1_x (d : Dev nD) : val1 m d xRef = inRows m d := StableHlo.reshape_result _ _ _ _ _ _ _
theorem val1_o (d : Dev nD) : val1 m d oRef = m (oLoc d) :=
  (toRows (F := F)).result_of_not_mem _ (show oRef ∉ ({xRef} : Finset (DevRef τ sig)) by decide)
theorem val2_a (d : Dev nD) : val2 m d aRef = m (aLoc d) := (Function.update_of_ne (show aRef ≠ oRef by decide) _ _).trans (val1_a m d)
theorem val2_x (d : Dev nD) : val2 m d xRef = inRows m d := (Function.update_of_ne (show xRef ≠ oRef by decide) _ _).trans (val1_x m d)
theorem val2_o (d : Dev nD) : val2 m d oRef = results (inRows m d) := Function.update_self _ _ _
theorem val2_r (d : Dev nD) : val2 m d rRef = val1 m d rRef := Function.update_of_ne (show rRef ≠ oRef by decide) _ _
theorem val3_a (d : Dev nD) : val3 m d aRef = m (aLoc d) :=
  ((fromRows (F := F)).result_of_not_mem _ (show aRef ∉ ({rRef} : Finset (DevRef τ sig)) by decide)).trans (val2_a m d)
theorem val3_r (d : Dev nD) : val3 m d rRef = outcome m d :=
  (StableHlo.reshape_result _ _ _ _ _ _ _).trans (by rw [val2_o]; rfl)

theorem held_val1 (d : Dev nD) : (held (SparseCore.T d) arrays (val1 m d) : sProp 𝕄)
    = iprop((aLoc d ↦{fullShare} m (aLoc d)) ∗ (xLoc d ↦{fullShare} inRows m d) ∗ (oLoc d ↦{fullShare} m (oLoc d)) ∗ rLoc d ↦{fullShare} val1 m d rRef) := by
  rw [held_arrays, val1_a, val1_x, val1_o]
theorem held_val3 (d : Dev nD) : (held (SparseCore.T d) arrays (val3 m d) : sProp 𝕄)
    = iprop((aLoc d ↦{fullShare} m (aLoc d)) ∗ (xLoc d ↦{fullShare} val3 m d xRef) ∗ (oLoc d ↦{fullShare} val3 m d oRef) ∗ rLoc d ↦{fullShare} outcome m d) := by
  rw [held_arrays, val3_a, val3_r]

theorem toRows_bufs : (toRows (F := F)).bufs ⊆ arrays := show ({aRef, xRef} : Finset (DevRef τ sig)) ⊆ arrays by decide
theorem fromRows_bufs : (fromRows (F := F)).bufs ⊆ arrays := show ({oRef, rRef} : Finset (DevRef τ sig)) ⊆ arrays by decide

/-! ## What the call hands out and takes back -/

abbrev core (c : Fin ((K (F := F)).nCore 0)) : Fin 2 := Fin.cast cores_eq c
abbrev tile (s : Fin ((K (F := F)).nSub 0)) : Fin 16 := Fin.cast tiles_eq s

/-- A tile's rows before its run and after it. -/
def goes (d : Dev nD) (c : Fin 2) (s : Fin 16) : sProp 𝕄 :=
  iprop(TileRows (xLoc d) rowSet (inRows m d) c s ∗ TileRows (oLoc d) rowSet (m (oLoc d)) c s)
def comes (d : Dev nD) (c : Fin 2) (s : Fin 16) : sProp 𝕄 :=
  iprop(TileRows (xLoc d) rowSet (inRows m d) c s ∗ TileRows (oLoc d) rowSet (results (inRows m d)) c s)

instance goes_storable (d : Dev nD) (c : Fin 2) (s : Fin 16) : BI.Storable (upEmb : UEmb _ 𝕄) (goes m d c s) := by
  unfold goes TileRows LaneRows; infer_instance
instance comes_storable (d : Dev nD) (c : Fin 2) (s : Fin 16) : BI.Storable (upEmb : UEmb _ 𝕄) (comes m d c s) := by
  unfold comes TileRows LaneRows; infer_instance

/-- A SparseCore's rows before its tiles' runs and after them. -/
def sends (d : Dev nD) (c : Fin 2) : sProp 𝕄 := bigSep Finset.univ fun s : Fin 16 => goes m d c s
def returns (d : Dev nD) (c : Fin 2) : sProp 𝕄 := bigSep Finset.univ fun s : Fin 16 => comes m d c s

instance sends_storable (d : Dev nD) (c : Fin 2) : BI.Storable (upEmb : UEmb _ 𝕄) (sends m d c) := by
  unfold sends; infer_instance
instance returns_storable (d : Dev nD) (c : Fin 2) : BI.Storable (upEmb : UEmb _ 𝕄) (returns m d c) := by
  unfold returns; infer_instance

/-- A SparseCore is handed its tiles' rows, each tile its own. -/
def P : (K (F := F)).Pay (nD := nD) (Val := Elt F) (Name := ℕ) (U := UU) where
  st := fun q d c => match q with | 0 => sends m d (core c)
  dn := fun q d c => match q with | 0 => returns m d (core c)
  go := fun q d c s => match q with | 0 => goes m d (core c) (tile s)
  td := fun q d c s => match q with | 0 => comes m d (core c) (tile s)
  x := fun _ _ => iprop(emp)

instance P_storable : (P (F := F) m).IsStorable where
  st q d c := match q with | 0 => sends_storable m d (core c)
  dn q d c := match q with | 0 => returns_storable m d (core c)
  go q d c s := match q with | 0 => goes_storable m d (core c) (tile s)
  td q d c s := match q with | 0 => comes_storable m d (core c) (tile s)

theorem over_tiles (Φ : Fin 16 → sProp 𝕄) : (bigSep Finset.univ fun s : Fin ((K (F := F)).nSub 0) => Φ (tile s)) = bigSep Finset.univ Φ :=
  bigSep_congr fun _ _ => congrArg Φ (Fin.ext rfl)
theorem over_cores (Φ : Fin 2 → sProp 𝕄) : (bigSep Finset.univ fun c : Fin ((K (F := F)).nCore 0) => Φ (core c)) = bigSep Finset.univ Φ :=
  bigSep_congr fun _ _ => congrArg Φ (Fin.ext rfl)

theorem vecSplit : (K (F := F)).VecSplit' (P m) 0 := by
  intro d c
  show sends m d (core c) ⊢ |={Set.univ}=> iprop(
      (bigSep Finset.univ fun s : Fin ((K (F := F)).nSub 0) => goes m d (core c) (tile s))
      ∗ ((bigSep Finset.univ fun s : Fin ((K (F := F)).nSub 0) => comes m d (core c) (tile s)) -∗ returns m d (core c)))
  rw [over_tiles (goes m d (core c)), over_tiles (comes m d (core c))]
  unfold sends returns
  iintro H
  imodintro
  isplitl [H]; · iexact H
  iintro H
  iexact H

/-- All the SparseCores' rows are the two arrays. -/
theorem all_rows (d : Dev nD) (X : Buf (Elt F) (xLoc d)) (Y : Buf (Elt F) (oLoc d)) :
    (bigSep Finset.univ fun c : Fin 2 => bigSep Finset.univ fun s : Fin 16 => iprop(TileRows (xLoc d) rowSet X c s ∗ TileRows (oLoc d) rowSet Y c s))
      = (iprop((xLoc d ↦{fullShare} X) ∗ oLoc d ↦{fullShare} Y) : sProp 𝕄) := by
  rw [x_rows, o_rows, ← bigSep_sep']
  exact bigSep_congr fun c _ => bigSep_sep' _ _ _

theorem st_eq (d : Dev nD) :
    (bigSep Finset.univ fun c : Fin ((K (F := F)).nCore 0) => (P m).st 0 d c) = iprop((xLoc d ↦{fullShare} inRows m d) ∗ oLoc d ↦{fullShare} m (oLoc d)) :=
  (over_cores (sends m d)).trans (all_rows d _ _)
theorem dn_eq (d : Dev nD) :
    (bigSep Finset.univ fun c : Fin ((K (F := F)).nCore 0) => (P m).dn 0 d c) = iprop((xLoc d ↦{fullShare} inRows m d) ∗ oLoc d ↦{fullShare} results (inRows m d)) :=
  (over_cores (returns m d)).trans (all_rows d _ _)

theorem defs₀_vector (c : Fin τ.nSC) (s : Fin τ.nSub) :
    defs₀ (F := F) (.scVector c s) 0 ()
      = SparseCore.onTile hcore0 hsub0 (fun c s => cc0_k (pointAt c s) xM (Memref.isWhole_whole _) oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (core c) (tile i) hF (inRows m d) (m (oLoc d)) O W hO

/-! ## The launch's ghost state -/

def u₀ : UU := (initOf (K (F := F)).hsCells (K (F := F)).hsToks, 1)

theorem none_left {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [none_left]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_left]
  iempintro

/-! ## The TensorCore's program -/

/-- What the TensorCore's program leaves: the argument as it was, and the result. -/
abbrev FIN (d : Dev nD) : sProp 𝕄 := iprop((aLoc d ↦{fullShare} m (aLoc d)) ∗ rLoc d ↦{fullShare} outcome m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := toRows) (S := arrays) toRows_bufs (V := val0 m d)) $$ [Hb Hheld]
  · isplitl [Hb] <;> iassumption
  iintro ⟨Hb, Hheld⟩
  rw [wp_ret]; imodintro
  ihave Hh := (Entails.of_eq (show (held (SparseCore.T d) arrays ((toRows (F := F)).result (val0 m d)) : sProp 𝕄) = _ from held_val1 m d)) $$ Hheld
  icases Hh with ⟨Ha, Hx, Ho, Hr⟩
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st_eq]
    isplitl [Hx]; · iexact Hx
    iexact Ho
  iintro ⟨Hst, Hdn⟩
  ihave Hdn' := (Entails.of_eq (dn_eq m d)) $$ Hdn
  icases Hdn' with ⟨Hx, Ho⟩
  iapply (wp_hlo_within 𝒱 (SparseCore.T d) none Set.univ (op := fromRows) (S := arrays) fromRows_bufs (V := val2 m d)) $$ [Hb Ha Hx Ho Hr]
  · isplitl [Hb]; · iexact Hb
    rw [held_arrays, val2_a, val2_x, val2_o, val2_r]
    isplitl [Ha]; · iexact Ha
    isplitl [Hx]; · iexact Hx
    isplitl [Ho]; · iexact Ho
    iexact Hr
  iintro ⟨Hb, Hheld⟩
  ihave Hh := (Entails.of_eq (show (held (SparseCore.T d) arrays ((fromRows (F := F)).result (val2 m d)) : sProp 𝕄) = _ from held_val3 m d)) $$ Hheld
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

/-- What the claims read of a final state: the result array and the argument. -/
def fq (d : Dev nD) (s' : Phys nD τ sig (Elt F)) : Prop := s'.mem.mem (rLoc d) = outcome m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := outcome m d)) $$ [HSI Hr]
  · isplitl [HSI] <;> iassumption
  icases H with %hr
  ipureintro
  exact ⟨funext fun i => hr i (Finset.mem_univ i), funext fun i => ha i (Finset.mem_univ i)⟩

/-! ## The run -/

/-- A final state of the program: the result is `outcome`, the argument is unchanged, every semaphore is back at zero. -/
def QC : PUnit × MemSt nD τ sig (Elt F) → Prop := fun r => (∀ c : Dev nD, r.2.mem (rLoc c) = outcome m c ∧ r.2.mem (aLoc c) = m (aLoc c)) ∧ r.2.sem = fun _ => 0

/-- The program runs, and ends in such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Rows

end
-- ==== Proof.Equation.lean ====
/-
  Over the extended reals: the kernel's result is the reference's.
-/
module

public import proofs.«01_k».proof.Proof.Placed
public import proofs.«01_k».proof.Proof.Launch

@[expose] public section

noncomputable section

namespace Cert.Plain

open Cert.ReferenceIdeal Cert.ReferenceIdeal.Gen Cert.Greatest
open Idealize.ShloMosaic

/-- The place in its row where a window's entry of greatest magnitude lies. -/
def lies (A : FVec Ideal S4x1024x8192 .f32) (j : S4x1024x512.Idx) : Nat :=
  16 * (j 2).val + (Cert.Pick.pick (window A (j 0) (j 1) (j 2))).val

/-- The reference computes these places. -/
theorem told (A : FVec Ideal S4x1024x8192 .f32) : Told (spots A) (lies A) := fun j =>
  ⟨(congrArg (spots A) (eq_ix3 j)).trans (spots_at A (j 0) (j 1) (j 2) _ (pick_leads _)), by
    have h2 : (j 2).val < 512 := (j 2).isLt
    have := (Cert.Pick.pick (window A (j 0) (j 1) (j 2))).isLt
    unfold lies
    omega⟩

/-- The window a place of a row lies in, -/
def windowOf (l : Fin 8192) : Fin 512 := ⟨l.val / 16, by omega⟩
/-- and its place in it. -/
def entryOf (l : Fin 8192) : Fin 16 := ⟨l.val % 16, by omega⟩

/-- The reference's result at an index: the argument's value if it is the one its window keeps, zero if not. -/
theorem answer_at (A : FVec Ideal S4x1024x8192 .f32) (b : Fin 4) (c : Fin 1024) (l : Fin 8192) :
    answer A (ix3 b c l)
      = if Cert.Pick.pick (window A b c (windowOf l)) = entryOf l then A (ix3 b c l) else Scalar.ofBits .f32 0x00000000#32 := by
  have hw : ∀ w : Fin 512, lies A (ix3 b c w) = l.val → w = windowOf l ∧ Cert.Pick.pick (window A b c (windowOf l)) = entryOf l := by
    intro w e
    have e' : 16 * w.val + (Cert.Pick.pick (window A b c w)).val = l.val := e
    have hk := (Cert.Pick.pick (window A b c w)).isLt
    have : w = windowOf l := Fin.ext (by show w.val = l.val / 16; omega)
    subst this
    exact ⟨rfl, Fin.ext (by show _ = l.val % 16; omega)⟩
  unfold answer
  by_cases g : Cert.Pick.pick (window A b c (windowOf l)) = entryOf l
  · rw [if_pos g]
    have gl : lies A (ix3 b c (windowOf l)) = l.val := by
      show 16 * (l.val / 16) + (Cert.Pick.pick (window A b c (windowOf l))).val = l.val
      rw [g]
      show 16 * (l.val / 16) + l.val % 16 = l.val
      omega
    refine Routing.scatter_set_hit _ _ _ _ _ _ (fun k hk => ?_) (ix3 b c (windowOf l)) ((lands_iff (told A) _ _ _ _ _ _).2 ⟨rfl, rfl, gl⟩)
    obtain ⟨k0, k1, k2, rfl⟩ : ∃ (k0 : Fin 4) (k1 : Fin 1024) (k2 : Fin 512), k = ix3 k0 k1 k2 := ⟨k 0, k 1, k 2, eq_ix3 k⟩
    obtain ⟨rfl, rfl, e⟩ := (lands_iff (told A) _ _ _ _ _ _).1 hk
    rw [taken_at A (told A)]
    exact congrArg (fun z => A (ix3 k0 k1 z)) (Fin.ext e)
  · rw [if_neg g]
    refine Routing.scatter_set_miss _ _ _ _ _ (fun k hk => ?_)
    obtain ⟨k0, k1, k2, rfl⟩ : ∃ (k0 : Fin 4) (k1 : Fin 1024) (k2 : Fin 512), k = ix3 k0 k1 k2 := ⟨k 0, k 1, k 2, eq_ix3 k⟩
    obtain ⟨rfl, rfl, e⟩ := (lands_iff (told A) _ _ _ _ _ _).1 hk
    exact g (hw _ e).2

/-- The row of the flat array that holds row `(b, c)`. -/
def flat (b : Fin 4) (c : Fin 1024) : Fin 4096 := ⟨1024 * b.val + c.val, by omega⟩

/-- The argument flattened to rows, read at a place of a row. -/
theorem flat_at (A : FVec Ideal S4x1024x8192 .f32) (h : S4x1024x8192.ShapeCasts Cert.KernelIdeal.S4096x8192) (b : Fin 4) (c : Fin 1024)
    (p : Cert.KernelIdeal.S8192.Idx) :
    Cert.Rows.rowsOf (shapeCast Cert.KernelIdeal.S4096x8192 A h) (flat b c) p = A (ix3 b c (p 0)) := by
  have e : Shape.reshapeEquiv h (Cert.Rows.spot (flat b c) p) = (ix3 b c (p 0) : S4x1024x8192.Idx) :=
    Shape.reshapeEquiv_eq_of_vals _ _ _ _ _ (rowMajor_val3 _ 8388608 8192 rfl rfl) (rowMajor_val2 _ 8192 rfl)
      (by
        show b.val * 8388608 + c.val * 8192 + (p 0).val = (1024 * b.val + c.val) * 8192 + (p 0).val
        omega)
  exact congrArg A e

/-- A block of a row is a window of the argument. -/
theorem block_window (A : FVec Ideal S4x1024x8192 .f32) (h : S4x1024x8192.ShapeCasts Cert.KernelIdeal.S4096x8192) (b : Fin 4) (c : Fin 1024)
    (g : Fin 32) (x : Fin 16) (w : Fin 512) (e : 16 * g.val + x.val = w.val) :
    Cert.Pick.block (Cert.Rows.rowsOf (shapeCast Cert.KernelIdeal.S4096x8192 A h) (flat b c)) g x = window A b c w := by
  funext j
  refine (flat_at A h b c (Cert.Pick.at3 g x j)).trans ?_
  refine congrArg (fun z => A (ix3 b c z)) (Fin.ext ?_)
  show 256 * g.val + 16 * x.val + j.val = 16 * w.val + j.val
  omega

/-- The kernel's result, row by row and reshaped back, is the reference's. -/
theorem rows_answer (A : FVec Ideal S4x1024x8192 .f32) (h : S4x1024x8192.ShapeCasts Cert.KernelIdeal.S4096x8192)
    (h' : Cert.KernelIdeal.S4096x8192.ShapeCasts S4x1024x8192) :
    shapeCast S4x1024x8192 (Cert.Rows.results (shapeCast Cert.KernelIdeal.S4096x8192 A h)) h' = answer A := by
  funext i
  obtain ⟨b, c, l, rfl⟩ : ∃ (b : Fin 4) (c : Fin 1024) (l : Fin 8192), i = ix3 b c l := ⟨i 0, i 1, i 2, eq_ix3 i⟩
  rw [answer_at]
  have e : Shape.reshapeEquiv h' (ix3 b c l) = Cert.Rows.spot (flat b c) (ix1 l) :=
    Shape.reshapeEquiv_eq_of_vals _ _ _ _ _ (rowMajor_val2 _ 8192 rfl) (rowMajor_val3 _ 8388608 8192 rfl rfl)
      (by
        show (1024 * b.val + c.val) * 8192 + l.val = b.val * 8388608 + c.val * 8192 + l.val
        omega)
  have r : shapeCast S4x1024x8192 (Cert.Rows.results (shapeCast Cert.KernelIdeal.S4096x8192 A h)) h' (ix3 b c l)
      = Cert.Pick.row (Cert.Rows.rowsOf (shapeCast Cert.KernelIdeal.S4096x8192 A h) (flat b c)) (ix1 l) := by
    generalize shapeCast Cert.KernelIdeal.S4096x8192 A h = X
    rw [Pointwise.shapeCast_apply, e]
    unfold Cert.Rows.results
    rw [Cert.Rows.rowOf_spot, Cert.Rows.placeOf_spot]
  rw [r]
  unfold Cert.Pick.row
  dsimp only
  rw [block_window A h b c _ _ (windowOf l) (by
    show 16 * (l.val / 256) + l.val / 16 % 16 = l.val / 16
    omega), flat_at]
  rfl

end Cert.Plain

end
-- ==== Proof.lean ====
/-
  The proof of the certificate's claim: the kernel's program and its reading over ideal numbers leave the
  argument unchanged and every semaphore at zero, so does the reference, and the kernel's program and the
  reference leave one and the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equation

@[expose] public section

noncomputable section

namespace Cert.Proof

open Idealize.ShloMosaic Idealize.SL.Sem Cert.Kernel

/-- The kernel's program ends with the argument unchanged and every semaphore at zero. -/
theorem frame_kernel : Cert.quiescent_Kernel := fun m ρ _ =>
  (θ_run Cert.KernelIdeal.defs _ _).mono (fun _ h => ⟨fun c => (h.1 c).2, h.2⟩) (Cert.Rows.run_main (F := Bits) m ρ)

/-- So does its reading over ideal numbers. -/
theorem frame_ideal : Cert.quiescent_KernelIdeal := fun m ρ _ =>
  (θ_run Cert.KernelIdeal.defs _ _).mono (fun _ h => ⟨fun c => (h.1 c).2, h.2⟩) (Cert.Rows.run_main (F := Ideal) m ρ)

/-- And so does the reference. -/
theorem frame_reference : Cert.quiescent_ReferenceIdeal := fun m ρ _ =>
  (θ_run Cert.ReferenceIdeal.defs _ _).mono (fun r h => ⟨fun c => (h c).2, sem_eq_zero_of_no_sems (by decide) r.2⟩) (Cert.Plain.run (F := Ideal) m ρ)

/-- From equal arguments, the kernel over ideal numbers and the reference leave one result. -/
theorem same : Cert.algebraic_KernelIdeal_ReferenceIdeal := fun m ρ m' ρ' _ hm =>
  ⟨fun c => Cert.Rows.outcome m c,
    (θ_run Cert.KernelIdeal.defs _ _).mono (fun _ h => h.1) (Cert.Rows.run_main (F := Ideal) m ρ),
    (θ_run Cert.ReferenceIdeal.defs _ _).mono
      (fun _ h c => ⟨(h c).1.trans ((congrArg Cert.Plain.answer (hm c)).trans (Cert.Plain.rows_answer _ _ _).symm), (h c).2⟩)
      (Cert.Plain.run (F := Ideal) m' ρ')⟩

/-- The certificate's claim. -/
theorem claim : Cert.Claim := ⟨Cert.Kernel.Gen.facts, Cert.KernelIdeal.Gen.facts, Cert.ReferenceIdeal.Gen.facts,
  frame_kernel, frame_ideal, frame_reference, trivial, same⟩

end Cert.Proof

end
